-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![512, 512]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 512]⟩ ⟨2, ![512, 1024]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S4x128x512 : Shape := ⟨3, ![4, 128, 512]⟩
abbrev S4 : Shape := ⟨1, ![4]⟩
abbrev S_ : Shape := ⟨0, ![]⟩
abbrev S128x256 : Shape := ⟨2, ![128, 256]⟩
abbrev S128x512 : Shape := ⟨2, ![128, 512]⟩
abbrev S1x128x512 : Shape := ⟨3, ![1, 128, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .bf16⟩
  | .local _ .vmem, ⟨0, _⟩ => ⟨S512x256, .bf16⟩
  | .local _ .vmem, ⟨1, _⟩ => ⟨S256x512, .bf16⟩
  | .local _ .vmem, ⟨2, _⟩ => ⟨S512x512, .bf16⟩
  | .local _ .vmem, ⟨3, _⟩ => ⟨S4x128x512, .bf16⟩
  | .local _ .vmem, ⟨4, _⟩ => ⟨S4x128x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v21 : BitVec 32 := Scalar.muli v6 c2_i32_17
  let v22 : BitVec 32 := Scalar.addi c0_i32_18 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v23 : BitVec 32 := Scalar.muli v5 c1_i32_19
  let v24 : BitVec 32 := Scalar.addi v22 v23
  v24.toNat
def k0_dev3 (d0 : Dev nD) : Nat :=
  let c0_i32_33 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_32 : BitVec 32 := 2#32
  let v40 : BitVec 32 := Scalar.muli v6 c2_i32_32
  let v41 : BitVec 32 := Scalar.addi c0_i32_33 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v42 : BitVec 32 := Scalar.muli v5 c1_i32_34
  let v43 : BitVec 32 := Scalar.addi v41 v42
  v43.toNat
def k0_dev4 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v59 : BitVec 32 := Scalar.muli v6 c2_i32_47
  let v60 : BitVec 32 := Scalar.addi c0_i32_48 v59
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v61 : BitVec 32 := Scalar.muli v5 c1_i32_49
  let v62 : BitVec 32 := Scalar.addi v60 v61
  v62.toNat
def k0_dev5 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v78 : BitVec 32 := Scalar.muli v6 c2_i32_61
  let v79 : BitVec 32 := Scalar.addi c0_i32_62 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v80 : BitVec 32 := Scalar.muli v5 c1_i32_63
  let v81 : BitVec 32 := Scalar.addi v79 v80
  v81.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x512 : Shape := ⟨2, ![512, 512]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S512x1024, .f32⟩
  | .hbm, ⟨3, _⟩ => ⟨S512x1024, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
/-
  The kernel's buffers, cut the way the kernel uses them: the four slots of the send and receive
  buffers (one per block of 128 rows), the four row blocks of the left factor and of the result, and
  the contents the run leaves there, written as functions of the two factors' blocks.
-/
module

public import proofs.«01_k».proof.Proof.Gen.KernelIdeal
public import proofs.«01_k».proof.Proof.Gen.KernelIdeal.Skeleton

@[expose] public section

noncomputable section

namespace Cert.PairSum

open Cert.KernelIdeal Cert.KernelIdeal.Gen
open Idealize.ShloMosaic
open Idealize.ShloMosaic.TcCoe
open Idealize.SL Idealize.SL.RA Idealize.SL.BI

variable {F : FTy → Type} [FloatOps F]

/-! ## The buffers -/

/-- The staged block of the left factor. -/
abbrev aM : Memref sig .tc .vmem S512x256 .bf16 := Memref.whole cc0_stg0_0
/-- The staged block of the right factor. -/
abbrev bM : Memref sig .tc .vmem S256x512 .bf16 := Memref.whole cc0_stg1_0
/-- The staged block of the result. -/
abbrev oM : Memref sig .tc .vmem S512x512 .bf16 := Memref.whole cc0_stg2_0
/-- The send buffer: four slots of 128 rows. -/
abbrev sM : Memref sig .tc .vmem S4x128x512 .bf16 := Memref.whole cc0_scratch0
/-- The receive buffer: four slots of 128 rows. -/
abbrev rM : Memref sig .tc .vmem S4x128x512 .bf16 := Memref.whole cc0_scratch1

/-! ## The cuts -/

/-- A slot lies inside its buffer. -/
theorem slot_inb (k : Fin 4) : ∀ a, (![k.val, 0, 0] : Fin 3 → Nat) a + S1x128x512.size a ≤ S4x128x512.size a := by
  revert k; decide
/-- A row block lies inside the left factor's block. -/
theorem arow_inb (k : Fin 4) : ∀ a, (![128 * k.val, 0] : Fin 2 → Nat) a + S128x256.size a ≤ S512x256.size a := by
  revert k; decide
/-- A row block lies inside the result's block. -/
theorem orow_inb (k : Fin 4) : ∀ a, (![128 * k.val, 0] : Fin 2 → Nat) a + S128x512.size a ≤ S512x512.size a := by
  revert k; decide

/-- Slot `k` of a four-slot buffer. -/
abbrev slotR (k : Fin 4) : Rect S4x128x512 := Rect.unit (s := S4x128x512) ![k.val, 0, 0] S1x128x512.size (slot_inb k)
/-- Rows `128 k` to `128 k + 127` of the left factor's block. -/
abbrev arowR (k : Fin 4) : Rect S512x256 := Rect.unit (s := S512x256) ![128 * k.val, 0] S128x256.size (arow_inb k)
/-- Rows `128 k` to `128 k + 127` of the result's block. -/
abbrev orowR (k : Fin 4) : Rect S512x512 := Rect.unit (s := S512x512) ![128 * k.val, 0] S128x512.size (orow_inb k)

/-- Slot `k` as a transfer names it: with the axis of extent one dropped. -/
abbrev slotOf (m : Memref sig .tc .vmem S4x128x512 .bf16) (k : Fin 4) : Memref sig .tc .vmem S128x512 .bf16 :=
  (m.slice (slotR k) (fun _ => rfl)).squeeze S128x512 squeezes_S1x128x512_S128x512

/-- Two different slots share no element. -/
theorem slotR_disjoint {k k' : Fin 4} (h : k ≠ k') : Disjoint (slotR k).set (slotR k').set := by
  refine Rect.unit_disjoint (0 : Fin 3) ?_
  have : k.val ≠ k'.val := fun e => h (Fin.ext e)
  show k.val + 1 ≤ k'.val ∨ k'.val + 1 ≤ k.val
  omega

/-- The four slots are the whole buffer. -/
theorem slotR_cover : (Finset.univ : Finset (Fin 4)).biUnion (fun k => (slotR k).set) = Finset.univ := by
  refine Finset.eq_univ_iff_forall.mpr fun i => Finset.mem_biUnion.mpr ⟨(i (0 : Fin 3) : Fin 4), Finset.mem_univ _, ?_⟩
  rw [Rect.mem_set_unit]
  intro a
  match a with
  | ⟨0, _⟩ => exact ⟨le_refl _, Nat.lt_succ_self _⟩
  | ⟨1, _⟩ => exact ⟨Nat.zero_le _, by simpa using (i (1 : Fin 3)).isLt⟩
  | ⟨2, _⟩ => exact ⟨Nat.zero_le _, by simpa using (i (2 : Fin 3)).isLt⟩

/-- Two different row blocks of the result share no element. -/
theorem orowR_disjoint {k k' : Fin 4} (h : k ≠ k') : Disjoint (orowR k).set (orowR k').set := by
  refine Rect.unit_disjoint (0 : Fin 2) ?_
  have : k.val ≠ k'.val := fun e => h (Fin.ext e)
  show 128 * k.val + 128 ≤ 128 * k'.val ∨ 128 * k'.val + 128 ≤ 128 * k.val
  omega

/-- The block of 128 rows a row of the result lies in. -/
def rowBlock (i : S512x512.Idx) : Fin 4 := ⟨(i (0 : Fin 2)).val / 128, by
  have : (i (0 : Fin 2)).val < 512 := (i (0 : Fin 2)).isLt
  omega⟩

/-- The four row blocks are the whole result. -/
theorem orowR_cover : (Finset.univ : Finset (Fin 4)).biUnion (fun k => (orowR k).set) = Finset.univ := by
  refine Finset.eq_univ_iff_forall.mpr fun i => Finset.mem_biUnion.mpr ⟨rowBlock i, Finset.mem_univ _, ?_⟩
  rw [Rect.mem_set_unit]
  intro a
  match a with
  | ⟨0, _⟩ =>
    show 128 * ((i (0 : Fin 2)).val / 128) ≤ (i (0 : Fin 2)).val ∧ (i (0 : Fin 2)).val < 128 * ((i (0 : Fin 2)).val / 128) + 128
    omega
  | ⟨1, _⟩ => exact ⟨Nat.zero_le _, by simpa using (i (1 : Fin 2)).isLt⟩

/-! ## The contents -/

/-- The rows of a four-slot array's slot `k`, as a load of that slot reads them. -/
def slotRead (X : S4x128x512.Idx → Elt F .bf16) (k : Fin 4) : S1x128x512.Idx → Elt F .bf16 := fun x => X ((slotR k).emb x)

/-- Block `k` of the partial product: rows `128 k …` of `A` times `B`, rounded. -/
def chunk (A : S512x256.Idx → Elt F .bf16) (B : S256x512.Idx → Elt F .bf16) (k : Fin 4) : S1x128x512.Idx → Elt F .bf16 :=
  k0_pay3 (k0_pay1 B) (fun x => A ((arowR k).emb x))

/-- The place of an element inside its slot. -/
def inSlot (i : S4x128x512.Idx) : S1x128x512.Idx := fun a =>
  match a with
  | ⟨0, _⟩ => (⟨0, Nat.one_pos⟩ : Fin 1)
  | ⟨1, _⟩ => i (1 : Fin 3)
  | ⟨2, _⟩ => i (2 : Fin 3)

/-- The whole partial product of one device, laid out in its four slots. -/
def part (A : S512x256.Idx → Elt F .bf16) (B : S256x512.Idx → Elt F .bf16) : S4x128x512.Idx → Elt F .bf16 :=
  fun i => chunk A B (i (0 : Fin 3) : Fin 4) (inSlot i)

/-- The place of an element of the result inside its row block. -/
def inRows (i : S512x512.Idx) : S128x512.Idx := fun a =>
  match a with
  | ⟨0, _⟩ => (⟨(i (0 : Fin 2)).val % 128, Nat.mod_lt _ (by decide)⟩ : Fin 128)
  | ⟨1, _⟩ => i (1 : Fin 2)

/-- The result's block: row block `k` is slot `k` of one partial product plus slot `k` of the other. -/
def sumOf (P Q : S4x128x512.Idx → Elt F .bf16) : S512x512.Idx → Elt F .bf16 :=
  fun i => k0_pay6 (slotRead P (rowBlock i)) (slotRead Q (rowBlock i)) (inRows i)

/-- An element of slot `k` has first coordinate `k`. -/
theorem slotR_emb_zero (k : Fin 4) (x : S1x128x512.Idx) : ((slotR k).emb x (0 : Fin 3) : Fin 4) = k := by
  refine Fin.ext ?_
  have h : (x (0 : Fin 3)).val < 1 := (x (0 : Fin 3)).isLt
  show k.val + 1 * (x (0 : Fin 3)).val = k.val
  omega

/-- An element of a slot is at its own place inside the slot. -/
theorem inSlot_emb (k : Fin 4) (x : S1x128x512.Idx) : inSlot ((slotR k).emb x) = x := by
  funext a
  match a with
  | ⟨0, _⟩ =>
    refine Fin.ext ?_
    have h : (x (0 : Fin 3)).val < 1 := (x (0 : Fin 3)).isLt
    show 0 = (x (0 : Fin 3)).val
    omega
  | ⟨1, _⟩ =>
    refine Fin.ext ?_
    show 0 + 1 * (x (1 : Fin 3)).val = (x (1 : Fin 3)).val
    omega
  | ⟨2, _⟩ =>
    refine Fin.ext ?_
    show 0 + 1 * (x (2 : Fin 3)).val = (x (2 : Fin 3)).val
    omega

/-- Slot `k` of the partial product is its block `k`. -/
theorem slotRead_part (A : S512x256.Idx → Elt F .bf16) (B : S256x512.Idx → Elt F .bf16) (k : Fin 4) :
    slotRead (part A B) k = chunk A B k := by
  funext x
  unfold slotRead part
  rw [slotR_emb_zero, inSlot_emb]

/-- An element of row block `k` lies in row block `k`. -/
theorem rowBlock_emb (k : Fin 4) (x : S128x512.Idx) : rowBlock ((orowR k).emb x) = k := by
  refine Fin.ext ?_
  have h : (x (0 : Fin 2)).val < 128 := (x (0 : Fin 2)).isLt
  show (128 * k.val + 1 * (x (0 : Fin 2)).val) / 128 = k.val
  omega

/-- An element of a row block is at its own place inside the block. -/
theorem inRows_emb (k : Fin 4) (x : S128x512.Idx) : inRows ((orowR k).emb x) = x := by
  funext a
  match a with
  | ⟨0, _⟩ =>
    refine Fin.ext ?_
    have h : (x (0 : Fin 2)).val < 128 := (x (0 : Fin 2)).isLt
    show (128 * k.val + 1 * (x (0 : Fin 2)).val) % 128 = (x (0 : Fin 2)).val
    omega
  | ⟨1, _⟩ =>
    refine Fin.ext ?_
    show 0 + 1 * (x (1 : Fin 2)).val = (x (1 : Fin 2)).val
    omega

/-- Row block `k` of the result, as the store of that block writes it. -/
theorem sumOf_rows (P Q : S4x128x512.Idx → Elt F .bf16) (k : Fin 4) :
    (fun x => sumOf P Q ((orowR k).emb x)) = k0_pay6 (slotRead P k) (slotRead Q k) := by
  funext x
  unfold sumOf
  rw [rowBlock_emb, inRows_emb]

/-! ## Reads and writes through the cuts -/

/-- The elements of slot `k`, through either spelling of the slot. -/
theorem sM_access_set (k : Fin 4) : (sM.access (slotR k)).set = (slotR k).set := View.set_slice_whole _ _
/-- A load of the receive buffer's slot `k` touches slot `k`. -/
theorem rM_access_set (k : Fin 4) : (rM.access (slotR k)).set = (slotR k).set := View.set_slice_whole _ _
/-- A copy from the send buffer's slot `k` touches slot `k`. -/
theorem sM_slot_set (k : Fin 4) : (slotOf sM k).view.set = (slotR k).set :=
  (View.set_reshape _ _).trans (sM_access_set k)
/-- A copy to the receive buffer's slot `k` touches slot `k`. -/
theorem rM_slot_set (k : Fin 4) : (slotOf rM k).view.set = (slotR k).set :=
  (View.set_reshape _ _).trans (rM_access_set k)
/-- A store to the result's row block `k` touches row block `k`. -/
theorem oM_access_set (k : Fin 4) : (oM.access (orowR k)).set = (orowR k).set := View.set_slice_whole _ _

/-- After block `k` of the partial product is stored in slot `k`, that slot holds the partial product. -/
theorem store_slot (A : S512x256.Idx → Elt F .bf16) (B : S256x512.Idx → Elt F .bf16) (k : Fin 4)
    (f : sM.view.ty.Contents (Elt F)) (i : S4x128x512.Idx) (hi : i ∈ (slotR k).set) :
    (sM.access (slotR k)).write (Elt F) f (chunk A B k) Finset.univ i = part A B i := by
  have h : (sM.access (slotR k)).read (Elt F) (part A B) = chunk A B k := slotRead_part A B k
  rw [← h, View.write_read_eq_piecewise, View.setOn_univ, sM_access_set]
  exact Finset.piecewise_eq_of_mem _ _ _ hi

/-- After a transfer of slot `k` holding `X`, the receiving slot `k` holds `X`. -/
theorem land_slot (k : Fin 4) (X : S4x128x512.Idx → Elt F .bf16) (f : rM.view.ty.Contents (Elt F))
    (i : S4x128x512.Idx) (hi : i ∈ (slotR k).set) :
    (slotOf rM k).view.write (Elt F) f ((slotOf sM k).view.read (Elt F) X) Finset.univ i = X i := by
  have h : (slotOf sM k).view.read (Elt F) X = (slotOf rM k).view.read (Elt F) X := rfl
  rw [h, View.write_read_eq_piecewise, View.setOn_univ, rM_slot_set]
  exact Finset.piecewise_eq_of_mem _ _ _ hi

/-- After row block `k` of the sum is stored in rows `128 k …` of the result, those rows hold the sum. -/
theorem store_rows (P Q : S4x128x512.Idx → Elt F .bf16) (k : Fin 4) (f : oM.view.ty.Contents (Elt F))
    (i : S512x512.Idx) (hi : i ∈ (orowR k).set) :
    (oM.access (orowR k)).write (Elt F) f (k0_pay6 (slotRead P k) (slotRead Q k)) Finset.univ i = sumOf P Q i := by
  have h : (oM.access (orowR k)).read (Elt F) (sumOf P Q) = k0_pay6 (slotRead P k) (slotRead Q k) := sumOf_rows P Q k
  rw [← h, View.write_read_eq_piecewise, View.setOn_univ, oM_access_set]
  exact Finset.piecewise_eq_of_mem _ _ _ hi

end Cert.PairSum

end
-- ==== Proof.Protocol.lean ====
/-
  The agreement between the four devices. Each device has nine counters in play: the barrier, and a
  send and a receive counter for each of the four slots. Every counter goes through one round, with
  one payer: the partner signals the barrier, handing over its receive buffer; the device's own
  transfer of slot `k` pays its send counter `k`, giving back half of the slot it read; the partner's
  transfer of slot `k` pays the receive counter `k`, delivering the partner's partial product.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.PairSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the devices' counters: one duty a round. -/
abbrev UB : Type := URounds (GSem nD τ sig) Unit
/-- The pipeline's ghost state beside it. -/
abbrev UU : Type := UR sig nD τ × UB

local notation "𝕄" => MT nD τ sig Unit (Elt F) ℕ UU ℕ

/-- Where the staging copies keep their bookkeeping. -/
abbrev EP : Emb (UR sig nD τ) (MT nD τ sig Unit (Elt F) ℕ UU ℕ) := embL
/-- Where the rounds of the counters keep their bookkeeping. -/
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## Partners -/

/-- The partner of a device: the one in its mesh column, in the other row. -/
def peer (c : Dev nD) : Dev nD := ⟨(c.val + 2) % 4, Nat.mod_lt _ (by decide)⟩

/-- The partner's partner is the device itself. -/
theorem peer_peer (c : Dev nD) : peer (peer c) = c := by revert c; decide

/-- The number the program computes for its partner names the partner. -/
theorem peer_of {c : Dev nD} {n : Nat} (h : n < nD) (e : n = ((c.val % 2) + 2) - 2 * (c.val / 2)) :
    (⟨n, h⟩ : Dev nD) = peer c := by
  subst e; refine Fin.ext ?_; revert c; decide

/-- Partners, as a permutation of the devices. -/
def swap : Dev nD ≃ Dev nD := ⟨peer, peer, peer_peer, peer_peer⟩

/-! ## Counters -/

theorem sem_inb (k : Fin 4) : ∀ a, (![k.val] : Fin 1 → Nat) a + S1.size a ≤ S4.size a := by revert k; decide

/-- Element `k` of an array of four transfer counters. -/
abbrev semAt (a : DmaSems sig S4) (k : Fin 4) : DmaSem sig :=
  ((a.slice (Rect.unit (s := S4) ![k.val] S1.size (sem_inb k))).squeeze S_ squeezes_S1_S_).sem

/-- The barrier counter. -/
abbrev barS : Sem sig := (SemArray.scalar (sig.barrier 0 rfl) : Sems sig S_).sem

/-- The nine counters a device waits on: its barrier, its send counters, its receive counters. -/
abbrev Role : Type := Unit ⊕ (Fin 4 ⊕ Fin 4)

/-- The barrier counter's role. -/
abbrev rBar : Role := .inl ()
/-- The role of send counter `k`. -/
abbrev rSend (k : Fin 4) : Role := .inr (.inl k)
/-- The role of receive counter `k`. -/
abbrev rRecv (k : Fin 4) : Role := .inr (.inr k)

/-- The counter of a role. -/
abbrev csem : Role → SemLoc sig
  | .inl _ => .reg barS
  | .inr (.inl k) => .dma (semAt cc0_scratch2 k)
  | .inr (.inr k) => .dma (semAt cc0_scratch3 k)

/-- The counter of a role, on a device. -/
abbrev cell (c : Dev nD) (r : Role) : GSem nD τ sig := ((c : Thread nD τ), csem r)

/-- Different roles are different counters. -/
theorem csem_injective : Function.Injective csem := by decide

/-- The role a counter has, if it has one. -/
def roleOf (s : SemLoc sig) : Option Role := (Finset.univ.filter fun r => csem r = s).toList.head?

/-- A role's counter has that role. -/
theorem roleOf_csem (r : Role) : roleOf (csem r) = some r := by
  unfold roleOf
  rw [show (Finset.univ.filter fun r' => csem r' = csem r) = {r} from by
    ext r'; simp only [Finset.mem_filter, Finset.mem_univ, true_and, Finset.mem_singleton]; exact csem_injective.eq_iff]
  rw [Finset.toList_singleton]; rfl

/-- A counter with a role is the counter of that role. -/
theorem csem_of_roleOf {s : SemLoc sig} {r : Role} (h : roleOf s = some r) : csem r = s := by
  unfold roleOf at h
  have h1 := List.mem_of_mem_head? h
  rw [Finset.mem_toList] at h1
  exact (Finset.mem_filter.mp h1).2

/-- Two counters are the same when their devices and their roles are. -/
theorem cell_eq_iff {a b : Dev nD} {r r' : Role} : cell a r = cell b r' ↔ a = b ∧ r = r' :=
  ⟨fun h => ⟨Fin.ext (congrArg (fun g : GSem nD τ sig => g.1.1.val) h), csem_injective (congrArg Prod.snd h)⟩, fun h => by rw [h.1, h.2]⟩

/-! ## Amounts -/

/-- What one transfer of a slot adds to a counter. -/
@[irreducible] def N : ℕ := (slotOf rM 0).view.dmaCredit
theorem N_pos : 0 < N := by unfold N; exact View.dmaCredit_pos _ (by decide)
/-- Every slot of the receive buffer is one transfer's worth, -/
theorem recv_credit (k : Fin 4) : (slotOf rM k).view.dmaCredit = N := by unfold N; rfl
/-- and so is every slot of the send buffer. -/
theorem send_credit (k : Fin 4) : (slotOf sM k).view.dmaCredit = N := by unfold N; rfl

/-- What one round of a counter amounts to. -/
def amt : Role → ℕ
  | .inl _ => 1
  | .inr _ => N

/-- Every round adds at least one unit. -/
theorem amt_pos (r : Role) : 0 < amt r := by
  cases r with
  | inl _ => exact Nat.one_pos
  | inr _ => exact N_pos

/-! ## Contents -/

/-- Device `c`'s block of the left factor. -/
def aIn (c : Dev nD) : S512x256.Idx → Elt F .bf16 :=
  (win0_0.blk (0 : Fin 1)).view.read (Elt F) ((s₀ m ρ).mem ((c : Thread nD τ).loc main_arg0))
/-- Device `c`'s block of the right factor. -/
def bIn (c : Dev nD) : S256x512.Idx → Elt F .bf16 :=
  (win0_1.blk (0 : Fin 1)).view.read (Elt F) ((s₀ m ρ).mem ((c : Thread nD τ).loc main_arg1))
/-- Device `c`'s partial product. -/
def prod (c : Dev nD) : S4x128x512.Idx → Elt F .bf16 := part (aIn m ρ c) (bIn m ρ c)
/-- Device `c`'s result: its partial product plus its partner's. -/
def outC (c : Dev nD) : S512x512.Idx → Elt F .bf16 := sumOf (prod m ρ c) (prod m ρ (peer c))

/-! ## Ownership of slots and rows -/

/-- Slot `k` of device `c`'s send buffer, at share `q`, holding `f`. -/
def sPts (c : Dev nD) (k : Fin 4) (q : PosShare TreeShare) (f : S4x128x512.Idx → Elt F .bf16) : sProp 𝕄 :=
  (slotOf sM k).view.loc (c : Thread nD τ) ↦[(slotOf sM k).view.set]{q} f
/-- Slot `k` of device `c`'s receive buffer, holding `f`. -/
def rPts (c : Dev nD) (k : Fin 4) (f : S4x128x512.Idx → Elt F .bf16) : sProp 𝕄 :=
  (slotOf rM k).view.loc (c : Thread nD τ) ↦[(slotOf rM k).view.set]{fullShare} f
/-- Row block `k` of device `c`'s result, holding `f`. -/
def oPts (c : Dev nD) (k : Fin 4) (f : S512x512.Idx → Elt F .bf16) : sProp 𝕄 :=
  (oM.access (orowR k)).loc (c : Thread nD τ) ↦[(oM.access (orowR k)).set]{fullShare} f

omit [FloatOps F] in
instance sPts_storable (c k q f) : BI.Storable (upEmb : UEmb _ 𝕄) (sPts (F := F) c k q f) := by unfold sPts; infer_instance
omit [FloatOps F] in
instance rPts_storable (c k f) : BI.Storable (upEmb : UEmb _ 𝕄) (rPts (F := F) c k f) := by unfold rPts; infer_instance

omit [FloatOps F] in
/-- The send buffer is its four slots. -/
theorem sPts_all (c : Dev nD) (f : S4x128x512.Idx → Elt F .bf16) :
    (bigSep Finset.univ fun k => sPts c k fullShare f : sProp 𝕄) = (((c : Thread nD τ).loc cc0_scratch0) ↦{fullShare} f) := by
  have h := pointsTo_biUnion (Ix := Unit) (Name := ℕ) (U := UU) (Lvl := ℕ) (q := fullShare) (ℓ := (c : Thread nD τ).loc cc0_scratch0) (f := f)
    (Finset.univ : Finset (Fin 4)) (fun k => (slotR k).set) (fun k _ k' _ hk => slotR_disjoint hk)
  rw [slotR_cover] at h
  refine Eq.trans (bigSep_congr fun k _ => ?_) h.symm
  unfold sPts
  rw [sM_slot_set]

omit [FloatOps F] in
/-- The receive buffer is its four slots. -/
theorem rPts_all (c : Dev nD) (f : S4x128x512.Idx → Elt F .bf16) :
    (bigSep Finset.univ fun k => rPts c k f : sProp 𝕄) = (((c : Thread nD τ).loc cc0_scratch1) ↦{fullShare} f) := by
  have h := pointsTo_biUnion (Ix := Unit) (Name := ℕ) (U := UU) (Lvl := ℕ) (q := fullShare) (ℓ := (c : Thread nD τ).loc cc0_scratch1) (f := f)
    (Finset.univ : Finset (Fin 4)) (fun k => (slotR k).set) (fun k _ k' _ hk => slotR_disjoint hk)
  rw [slotR_cover] at h
  refine Eq.trans (bigSep_congr fun k _ => ?_) h.symm
  unfold rPts
  rw [rM_slot_set]

omit [FloatOps F] in
/-- The result's block is its four row blocks. -/
theorem oPts_all (c : Dev nD) (f : S512x512.Idx → Elt F .bf16) :
    (bigSep Finset.univ fun k => oPts c k f : sProp 𝕄) = (((c : Thread nD τ).loc cc0_stg2_0) ↦{fullShare} f) := by
  have h := pointsTo_biUnion (Ix := Unit) (Name := ℕ) (U := UU) (Lvl := ℕ) (q := fullShare) (ℓ := (c : Thread nD τ).loc cc0_stg2_0) (f := f)
    (Finset.univ : Finset (Fin 4)) (fun k => (orowR k).set) (fun k _ k' _ hk => orowR_disjoint hk)
  rw [orowR_cover] at h
  refine Eq.trans (bigSep_congr fun k _ => ?_) h.symm
  unfold oPts
  rw [oM_access_set]

/-! ## The schedule -/

/-- What the one round of a counter hands its owner: the barrier, the partner's receive buffer; a send
    counter, half of the slot sent; a receive counter, the slot holding the partner's partial product. -/
def pay (c : Dev nD) : Role → sProp 𝕄
  | .inl _ => bigSep Finset.univ fun k => iprop(∃ f, rPts (peer c) k f)
  | .inr (.inl k) => sPts c k fullShare.left (prod m ρ c)
  | .inr (.inr k) => rPts c k (prod m ρ (peer c))

instance pay_storable (c : Dev nD) (r : Role) : BI.Storable (upEmb : UEmb _ 𝕄) (pay m ρ c r) := by
  match r with
  | .inl _ => unfold pay; infer_instance
  | .inr (.inl k) => unfold pay; infer_instance
  | .inr (.inr k) => unfold pay; infer_instance

/-- Every counter of a role has one round, with one duty. -/
def Rd : Rounds.Schedule (GSem nD τ sig) Unit 𝕄 where
  duties g r := if r = 0 ∧ g.1.2 = .tc ∧ (roleOf g.2).isSome then {()} else ∅
  unitless _ := False
  amount g _ _ := (roleOf g.2).elim 1 amt
  payload g _ _ := (roleOf g.2).elim iprop(emp) (pay m ρ g.1.1)
  amount_pos g _ _ _ := by
    cases roleOf g.2 with
    | none => exact Nat.one_pos
    | some r => exact amt_pos r

instance Rd_payload_storable (g : GSem nD τ sig) (r : ℕ) (d : Unit) :
    BI.Storable (upEmb : UEmb _ 𝕄) ((Rd (F := F) m ρ).payload g r d) := by
  show BI.Storable upEmb ((roleOf g.2).elim iprop(emp) (pay m ρ g.1.1))
  cases roleOf g.2 with
  | none => show BI.Storable upEmb iprop(emp); infer_instance
  | some r => show BI.Storable upEmb (pay m ρ g.1.1 r); infer_instance

section Sched
variable (c : Dev nD) (r : Role)

/-- A counter has one duty in its first round. -/
theorem duties_cell : (Rd (F := F) m ρ).duties (cell c r) 0 = {()} := by
  show (if 0 = 0 ∧ Proc.tc = Proc.tc ∧ (roleOf (csem r)).isSome then {()} else ∅ : Finset Unit) = {()}
  rw [roleOf_csem]; rfl
/-- That duty is one of the first round. -/
theorem mem_duties : () ∈ (Rd (F := F) m ρ).duties (cell c r) 0 := by
  rw [duties_cell]; exact Finset.mem_singleton_self _
/-- No counter has a duty after its first round. -/
theorem duties_later (g : GSem nD τ sig) : ∀ n, 1 ≤ n → (Rd (F := F) m ρ).duties g n = ∅ :=
  fun n hn => if_neg fun h => by omega
/-- The duty of a counter adds what its role says. -/
theorem amount_cell (d : Unit) : (Rd (F := F) m ρ).amount (cell c r) 0 d = amt r := by
  show (roleOf (csem r)).elim 1 amt = amt r
  rw [roleOf_csem]; rfl
/-- The duty of a counter hands over what its role says. -/
theorem payload_cell (d : Unit) : (Rd (F := F) m ρ).payload (cell c r) 0 d = pay m ρ c r := by
  show (roleOf (csem r)).elim iprop(emp) (pay m ρ c) = pay m ρ c r
  rw [roleOf_csem]; rfl
/-- The first round of a counter adds, in all, what its role says. -/
theorem expect_cell : (Rd (F := F) m ρ).expect (cell c r) 0 = amt r := by
  unfold Schedule.expect Schedule.amountOf
  rw [duties_cell, Finset.sum_singleton, amount_cell]
/-- The rest of the round, no duty taken, is the whole payload. -/
theorem rest_cell : bigSep ((Rd (F := F) m ρ).duties (cell c r) 0 \ ∅) (fun d => (Rd (F := F) m ρ).payload (cell c r) 0 d) = pay m ρ c r := by
  rw [Finset.sdiff_empty, duties_cell, bigSep_singleton, payload_cell]

end Sched

/-! ## What each device owes, and the order of waits -/

/-- The transfers of slots `n` and up, still owed to the partner's receive counters. -/
def oweFrom (c : Dev nD) (n : ℕ) : CellTallies nD τ sig Unit :=
  ∑ k ∈ Finset.univ.filter (fun k : Fin 4 => n ≤ k.val), tallyAt (cell (peer c) (rRecv k)) () N
/-- What device `c` owes at launch: the four transfers and the signal. -/
def O₀ (c : Dev nD) : CellTallies nD τ sig Unit := oweFrom c 0 + tallyAt (cell (peer c) rBar) () 1

/-- What is owed from copy `k` on is what copy `k` pays and what is owed from copy `k + 1` on. -/
theorem oweFrom_step (c : Dev nD) (k : Fin 4) :
    oweFrom c k.val = oweFrom c (k.val + 1) + tallyAt (cell (peer c) (rRecv k)) () N := by
  unfold oweFrom
  rw [show (Finset.univ.filter (fun k' : Fin 4 => k.val ≤ k'.val)) = insert k (Finset.univ.filter (fun k' : Fin 4 => k.val + 1 ≤ k'.val)) from by
    revert k; decide, Finset.sum_insert (by simp), add_comm]
/-- After four copies nothing more is owed. -/
theorem oweFrom_four (c : Dev nD) : oweFrom c 4 = 0 := by
  unfold oweFrom
  rw [show (Finset.univ.filter (fun k' : Fin 4 => 4 ≤ k'.val)) = ∅ from by decide, Finset.sum_empty]

/-- How much is owed to one counter from copy `n` on, as a sum over the remaining copies. -/
theorem oweFrom_apply (c : Dev nD) (n : ℕ) (g : GSem nD τ sig) (u : Unit) :
    oweFrom c n g u = ∑ k ∈ Finset.univ.filter (fun k : Fin 4 => n ≤ k.val), (tallyAt (cell (peer c) (rRecv k)) () N : CellTallies nD τ sig Unit) g u := by
  unfold oweFrom
  rw [Finset.sum_apply, Finsupp.finset_sum_apply]

/-- Only the partner's receive counters are owed anything by the copies. -/
theorem oweFrom_pos {c : Dev nD} {n : ℕ} {g : GSem nD τ sig} {u : Unit} (h : 0 < oweFrom c n g u) : ∃ k, g = cell (peer c) (rRecv k) := by
  by_contra hn
  rw [not_exists] at hn
  rw [oweFrom_apply, Finset.sum_eq_zero fun k _ => by rw [tallyAt_apply, if_neg fun h' => hn k h'.1]] at h
  exact Nat.lt_irrefl 0 h

/-- At launch only the partner's barrier and receive counters are owed anything. -/
theorem O₀_pos {c : Dev nD} {g : GSem nD τ sig} {u : Unit} (h : 0 < O₀ c g u) :
    g = cell (peer c) rBar ∨ ∃ k, g = cell (peer c) (rRecv k) := by
  unfold O₀ at h
  rw [Pi.add_apply, Finsupp.add_apply] at h
  rcases Nat.add_pos_iff_pos_or_pos.mp h with h | h
  · exact Or.inr (oweFrom_pos h)
  · rw [tallyAt_apply] at h
    by_cases hg : g = cell (peer c) rBar
    · exact Or.inl hg
    · rw [if_neg fun h' => hg h'.1] at h; exact absurd h (Nat.lt_irrefl 0)

/-- The indices of a counter: one on a TensorCore. -/
def L (g : GSem nD τ sig) : Finset Unit := if g.1.2 = .tc then {()} else ∅
/-- The level of a role: the barrier below the receive counters. -/
def lvR : Role → ℕ
  | .inl _ => 1
  | .inr (.inl _) => 0
  | .inr (.inr _) => 2
/-- The level of a counter: its role's, and zero without a role. -/
def lv (g : GSem nD τ sig) (_ : Unit) : ℕ := (roleOf g.2).elim 0 lvR

/-- Only the devices' main cores have counters with a level. -/
theorem L_of_ne (g : GSem nD τ sig) (h : g.1.2 ≠ .tc) : L g = ∅ := if_neg h
/-- Every counter of a main core has a level. -/
theorem L_tc (c : Dev nD) (sm : SemLoc sig) : L ((c : Thread nD τ), sm) = {()} := if_pos rfl
/-- A counter's level is the one of its role. -/
theorem lv_cell (c : Dev nD) (r : Role) (u : Unit) : lv (cell c r) u = lvR r := by
  show (roleOf (csem r)).elim 0 lvR = lvR r
  rw [roleOf_csem]; rfl

/-- A wait on a staging counter is below everything a device owes. -/
theorem mayWait_stage (c : Dev nD) (q : DmaSem sig) (hq : ∀ r, csem r ≠ .dma q) (O : CellTallies nD τ sig Unit) (hO : O = O₀ c ∨ O = 0) :
    (levAts L lv : sProp 𝕄) ⊢ MayWait (c : Thread nD τ) (.dma q) () O := by
  have hq0 : roleOf (.dma q) = none := by
    cases h : roleOf (.dma q) with
    | none => rfl
    | some r => exact absurd (csem_of_roleOf h) (hq r)
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨k, rfl⟩ <;> exact Finset.mem_singleton_self _)
      (fun p hp => by
        rw [Finset.mem_singleton.mp hp]
        show (roleOf (.dma q)).elim 0 lvR ≤ 0
        rw [hq0]; exact le_refl _)
      (fun g u hg => by
        rcases O₀_pos hg with rfl | ⟨k, rfl⟩
        · rw [lv_cell]; exact Nat.one_pos
        · rw [lv_cell]; exact Nat.two_pos)
  · rw [MayWait_zero]; iintro -; iempintro

/-- The wait on the barrier is below the transfers a device still owes. -/
theorem mayWait_bar (c : Dev nD) :
    (levAts L lv : sProp 𝕄) ⊢ MayWait (c : Thread nD τ) (.reg barS) () (oweFrom c 0) :=
  MayOwe.of_cut (L := L) (lev := lv) 1 (fun p hp => by rw [Finset.mem_singleton.mp hp, L_tc]; exact Finset.mem_singleton_self _)
    (fun g u hg => by obtain ⟨k, rfl⟩ := oweFrom_pos hg; exact Finset.mem_singleton_self _)
    (fun p hp => by rw [Finset.mem_singleton.mp hp]; exact le_of_eq (lv_cell c rBar ()))
    (fun g u hg => by obtain ⟨k, rfl⟩ := oweFrom_pos hg; rw [lv_cell]; exact Nat.one_lt_two)

/-! ## What a device starts from and ends with -/

/-- Every counter's invariant, under the names `K`, and that every counter has reached its round. -/
def records (K : Dev nD × Role → ℕ) : sProp 𝕄 :=
  iprop((bigSep Finset.univ fun cr : Dev nD × Role => cellInv ER (Rd m ρ) (K cr) (cell cr.1 cr.2))
    ∗ bigSep Finset.univ fun cr : Dev nD × Role => reached ER (cell cr.1 cr.2) 0)

instance records_persistent (K : Dev nD × Role → ℕ) : BI.Persistent (records m ρ K) := by unfold records; infer_instance

/-- The records hold the agreement of every counter. -/
theorem inv_at (K : Dev nD × Role → ℕ) (c : Dev nD) (r : Role) : records m ρ K ⊢ cellInv ER (Rd m ρ) (K (c, r)) (cell c r) := by
  unfold records
  iintro ⟨H, -⟩
  have h : (bigSep Finset.univ fun cr : Dev nD × Role => (cellInv ER (Rd m ρ) (K cr) (cell cr.1 cr.2) : sProp 𝕄))
      ⊢ cellInv ER (Rd m ρ) (K (c, r)) (cell c r) := bigSep_elim (Finset.mem_univ (c, r))
  iapply h
  iexact H
/-- The records say that every counter has reached its first round. -/
theorem reached_at (K : Dev nD × Role → ℕ) (c : Dev nD) (r : Role) : records m ρ K ⊢ reached ER (cell c r) 0 := by
  unfold records
  iintro ⟨-, H⟩
  have h : (bigSep Finset.univ fun cr : Dev nD × Role => (reached ER (cell cr.1 cr.2) 0 : sProp 𝕄))
      ⊢ reached ER (cell c r) 0 := bigSep_elim (Finset.mem_univ (c, r))
  iapply h
  iexact H

/-- The tokens of the duties device `c` pays: the partner's barrier and receive counters, its own send counters. -/
def payToks (c : Dev nD) : sProp 𝕄 :=
  iprop(dutyTok ER (cell (peer c) rBar) 0 () ∗ (bigSep Finset.univ fun k => dutyTok ER (cell c (rSend k)) 0 ())
    ∗ bigSep Finset.univ fun k => dutyTok ER (cell (peer c) (rRecv k)) 0 ())

/-- Device `c`'s own positions: at the start of its nine counters' rounds. -/
def positions (c : Dev nD) : sProp 𝕄 :=
  iprop(atPos ER (cell c rBar) 0 ∅ 0 ∗ (bigSep Finset.univ fun k => atPos ER (cell c (rSend k)) 0 ∅ 0)
    ∗ bigSep Finset.univ fun k => atPos ER (cell c (rRecv k)) 0 ∅ 0)

/-- The ghost state device `c` starts from. -/
def ghost (K : Dev nD × Role → ℕ) (c : Dev nD) : sProp 𝕄 := iprop(records m ρ K ∗ positions c ∗ payToks c)

/-- The credit device `c` waits with: its barrier's unit and its receive counters' transfers. -/
def credits (c : Dev nD) : sProp 𝕄 :=
  iprop(cred (tallyAt (cell c rBar) () 1) ∗ bigSep Finset.univ fun k => cred (tallyAt (cell c (rRecv k)) () N))

/-- What a device starts from: its agreements and tokens, the credit it waits with, and the levels. -/
def start (c : Dev nD) : sProp 𝕄 := iprop((∃ K, ghost m ρ K c) ∗ credits c ∗ levAts L lv)

/-- The two slot buffers, holding anything. -/
def slotsAny (c : Dev nD) : sProp 𝕄 :=
  iprop((bigSep Finset.univ fun k => iprop(∃ f, sPts c k fullShare f)) ∗ bigSep Finset.univ fun k => iprop(∃ f, rPts c k f))

/-- What a device owns before its body, beside the staged blocks. -/
def Φ₀ (c : Dev nD) : sProp 𝕄 := iprop(start m ρ c ∗ slotsAny c)

/-- The nine counters at zero. -/
def zeros (c : Dev nD) : sProp 𝕄 :=
  iprop(semVal (cell c rBar) 0 ∗ (bigSep Finset.univ fun k => semVal (cell c (rSend k)) 0) ∗ bigSep Finset.univ fun k => semVal (cell c (rRecv k)) 0)

/-- At the end: the two slot buffers holding the partial products, the counters at zero. -/
def Φ₁ (c : Dev nD) : sProp 𝕄 :=
  iprop((bigSep Finset.univ fun k => sPts c k fullShare (prod m ρ c)) ∗ (bigSep Finset.univ fun k => rPts c k (prod m ρ (peer c))) ∗ zeros c)

/-- The pipeline's data: what the arrays and the staged blocks hold, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aIn m ρ c
    | ⟨1, _⟩ => bIn m ρ c
    | ⟨2, _⟩ => outC m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- No loop of the program needs a measure. -/
abbrev 𝒱₀ : Variants := Variants.none

end Cert.PairSum

end
-- ==== Proof.Steps.lean ====
/-
  The three kinds of step of the kernel, each proved once for every slot: computing a block of the
  partial product and sending it; receiving the partner's block and storing the sum; waiting for a
  send to finish. And the closing of the nine counters.
-/
module

public import proofs.«01_k».proof.Proof.Protocol

@[expose] public section

noncomputable section

namespace Cert.PairSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

/-- Device `c` owes `O`, having waited on some counters. -/
def owing (c : Dev nD) (O : CellTallies nD τ sig Unit) : sProp 𝕄 := iprop(∃ W, owes (c : Thread nD τ) O W)

/-- Device `c`'s staged block of the left factor. -/
def aPts (c : Dev nD) : sProp 𝕄 := ((c : Thread nD τ).loc cc0_stg0_0) ↦{fullShare} aIn m ρ c

/-- The program `p`, run by device `c`, ends in `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A slot's points-to after the block is stored in it, as the partial product's. -/
theorem sPts_stored (c : Dev nD) (k : Fin 4) (f : S4x128x512.Idx → Elt F .bf16) :
    ((sM.access (slotR k)).loc (c : Thread nD τ) ↦[(slotOf sM k).view.set]{fullShare}
        ((sM.access (slotR k)).write (Elt F) f
          (k0_pay3 (k0_pay1 (bIn m ρ c)) (aM.view.readAt (Elt F) (arowR k).toLoadRect (aIn m ρ c))) Finset.univ) : sProp 𝕄)
      = sPts c k fullShare (prod m ρ c) := by
  unfold sPts
  exact pointsTo_congr fun i hi => store_slot _ _ k f i (by rw [sM_slot_set] at hi; exact hi)

/-- A receiving slot's points-to after a transfer lands in it. -/
theorem rPts_landed (c : Dev nD) (k : Fin 4) (X f : S4x128x512.Idx → Elt F .bf16) :
    ((slotOf rM k).view.loc (c : Thread nD τ) ↦[(slotOf rM k).view.set]{fullShare}
        ((slotOf rM k).view.write (Elt F) f ((slotOf sM k).view.read (Elt F) X) Finset.univ) : sProp 𝕄)
      = rPts c k X := by
  unfold rPts
  exact pointsTo_congr fun i hi => land_slot k X f i (by rw [rM_slot_set] at hi; exact hi)

/-- A row block's points-to after the sum is stored in it. -/
theorem oPts_stored (c : Dev nD) (k : Fin 4) (f : S512x512.Idx → Elt F .bf16) (P Q : S4x128x512.Idx → Elt F .bf16) :
    ((oM.access (orowR k)).loc (c : Thread nD τ) ↦[(oM.access (orowR k)).set]{fullShare}
        ((oM.access (orowR k)).write (Elt F) f
          (k0_pay6 ((sM.access (slotR k)).read (Elt F) P) ((rM.access (slotR k)).read (Elt F) Q)) Finset.univ) : sProp 𝕄)
      = oPts c k (sumOf P Q) := by
  unfold oPts
  exact pointsTo_congr fun i hi => store_rows P Q k f i (by rw [oM_access_set] at hi; exact hi)

/-- A slot's points-to splits into its two halves. -/
theorem sPts_halves (c : Dev nD) (k : Fin 4) (f : S4x128x512.Idx → Elt F .bf16) :
    (sPts c k fullShare f : sProp 𝕄) ⊣⊢ iprop(sPts c k fullShare.left f ∗ sPts c k fullShare.right f) := by
  unfold sPts
  exact pointsTo_share (PosShare.mem_left_op_right _)

/-- Sending slot `k` to the partner: it pays the send counter with half of the slot, and the partner's
    receive counter with the slot's contents. -/
theorem send_step (c n : Dev nD) (hn : n = peer c) (k : Fin 4)
    {hsc : (slotOf rM k : Memref sig (Dev.tc n : Thread nD τ).2.kind .vmem S128x512 .bf16).view.ref.isScScratch = false}
    {hsrc : (slotOf sM k).view.WordExact} {hdst : (slotOf rM k : Memref sig (Dev.tc n : Thread nD τ).2.kind .vmem S128x512 .bf16).view.WordExact}
    {hsem : DmaTarget.Typed .vmem (.dma (semAt cc0_scratch3 k)) (.remote (Dev.tc n : Thread nD τ) (slotOf rM k) (.dma (semAt cc0_scratch2 k)) hsc)}
    {α : Type} {Q : α → sProp 𝕄} {kt : PUnit → Prog (TpuEff nD τ sig (Elt F) Λ₀ .tc) α} (f : S4x128x512.Idx → Elt F .bf16)
    (W : Waits sig Unit) :
    iprop(cellInv ER (Rd m ρ) (K (c, rSend k)) (cell c (rSend k)) ∗ cellInv ER (Rd m ρ) (K (peer c, rRecv k)) (cell (peer c) (rRecv k))
        ∗ sPts c k fullShare.left (prod m ρ c) ∗ rPts (peer c) k f
        ∗ owes (c : Thread nD τ) (oweFrom c k.val) W
        ∗ dutyTok ER (cell c (rSend k)) 0 () ∗ reached ER (cell c (rSend k)) 0
        ∗ dutyTok ER (cell (peer c) (rRecv k)) 0 () ∗ reached ER (cell (peer c) (rRecv k)) 0)
      ⊢ iprop(((cred (tallyAt (cell c (rSend k)) () N) ∗ owes (c : Thread nD τ) (oweFrom c (k.val + 1)) W) -∗ runs c (kt ⟨⟩) Q)
          -∗ runs c (.op (.enqueueDma (slotOf sM k) (.remote (Dev.tc n : Thread nD τ) (slotOf rM k) (.dma (semAt cc0_scratch2 k)) hsc)
              (.dma (semAt cc0_scratch3 k)) hsrc hdst hsem) kt) Q) := by
  subst hn
  unfold sPts
  unfold rPts
  exact Rounds.wp_send_pointsTo 𝒱₀ ER (Rd m ρ) (c : Thread nD τ) none (κ₁ := K (c, rSend k)) (κ₂ := K (peer c, rRecv k))
    (r₁ := 0) (r₂ := 0) (d₁ := ()) (d₂ := ()) (fd := f)
    (mem_duties m ρ c (rSend k)) (mem_duties m ρ (peer c) (rRecv k))
    () () N (recv_credit k) (amount_cell m ρ c (rSend k) ()) (amount_cell m ρ (peer c) (rRecv k) ()) (oweFrom c (k.val + 1)) (oweFrom_step c k) (W := W)
    (by rw [payload_cell m ρ c (rSend k)]; exact BI.Entails.refl _)
    (by
      rw [payload_cell m ρ (peer c) (rRecv k)]
      show _ ⊢ rPts (peer c) k (prod m ρ (peer (peer c)))
      rw [peer_peer]
      exact Entails.of_eq (rPts_landed (peer c) k (prod m ρ c) f))

/-- Computing block `k` of the partial product, storing it in slot `k`, and sending it. -/
theorem chunk_step (c n : Dev nD) (hn : n = peer c) (k : Fin 4)
    (w : (S128x256.Idx → Elt F .bf16) → (S1x128x512.Idx → Elt F .bf16)) (hw : ∀ a, w a = k0_pay3 (k0_pay1 (bIn m ρ c)) a)
    {hl₁ : aM.view.LoadsAt (arowR k).toLoadRect} {hl₂ : sM.view.LoadsAt (slotR k).toLoadRect}
    {hx : (sM.access (slotR k)).Stores Finset.univ} {hm : (Finset.univ : Finset (slotR k).shape.Idx) = Finset.univ ∨ ∀ a, (slotR k).stride a = 1}
    {hsc : (slotOf rM k : Memref sig (Dev.tc n : Thread nD τ).2.kind .vmem S128x512 .bf16).view.ref.isScScratch = false}
    {hsrc : (slotOf sM k).view.WordExact} {hdst : (slotOf rM k : Memref sig (Dev.tc n : Thread nD τ).2.kind .vmem S128x512 .bf16).view.WordExact}
    {hsem : DmaTarget.Typed .vmem (.dma (semAt cc0_scratch3 k)) (.remote (Dev.tc n : Thread nD τ) (slotOf rM k) (.dma (semAt cc0_scratch2 k)) hsc)}
    {α : Type} {Q : α → sProp 𝕄} {kt : PUnit → Prog (TpuEff nD τ sig (Elt F) Λ₀ .tc) α} :
    iprop(records m ρ K ∗ aPts m ρ c ∗ (∃ f, sPts c k fullShare f) ∗ (∃ f, rPts (peer c) k f) ∗ owing c (oweFrom c k.val)
        ∗ dutyTok ER (cell c (rSend k)) 0 () ∗ dutyTok ER (cell (peer c) (rRecv k)) 0 ())
      ⊢ iprop(((aPts m ρ c ∗ sPts c k fullShare.right (prod m ρ c) ∗ cred (tallyAt (cell c (rSend k)) () N) ∗ owing c (oweFrom c (k.val + 1)))
            -∗ runs c (kt ⟨⟩) Q)
          -∗ runs c (.op (.load aM (arowR k).toLoadRect hl₁) fun a => .op (.load sM (slotR k).toLoadRect hl₂) fun _ =>
              .op (.store sM (slotR k) (w a) Finset.univ hx hm) fun _ =>
              .op (.enqueueDma (slotOf sM k) (.remote (Dev.tc n : Thread nD τ) (slotOf rM k) (.dma (semAt cc0_scratch2 k)) hsc)
                (.dma (semAt cc0_scratch3 k)) hsrc hdst hsem) kt) Q) := by
  iintro ⟨#HR, Ha, ⟨%f, Hs⟩, ⟨%g, Hr⟩, Ho, Ht₁, Ht₂⟩ Hk
  unfold aPts
  iapply (wp_load 𝒱₀ (c : Thread nD τ) none Set.univ (m := aM) (Finset.subset_univ _)) $$ Ha; iintro Ha
  unfold sPts
  iapply (wp_load_rect 𝒱₀ (c : Thread nD τ) none Set.univ (m := sM) (r := slotR k) (by rw [sM_access_set, sM_slot_set])) $$ Hs; iintro Hs
  iapply (wp_store 𝒱₀ (c : Thread nD τ) none Set.univ (m := sM) (r := slotR k) (Mk := Finset.univ)
    (by rw [View.setOn_univ, sM_access_set, sM_slot_set])) $$ Hs; iintro Hs
  rw [hw]
  ihave Hs := (Entails.of_eq (sPts_stored m ρ c k f)) $$ Hs
  ihave Hs := (sPts_halves c k (prod m ρ c)).1 $$ Hs
  icases Hs with ⟨Hs₁, Hs₂⟩
  unfold owing
  icases Ho with ⟨%W, Ho⟩
  iapply (send_step m ρ K c n hn k g W) $$ [Hs₁ Hr Ho Ht₁ Ht₂]
  · isplitr; · iapply (inv_at m ρ K c (rSend k)); iexact HR
    isplitr; · iapply (inv_at m ρ K (peer c) (rRecv k)); iexact HR
    isplitl [Hs₁]; · iexact Hs₁
    isplitl [Hr]; · iexact Hr
    isplitl [Ho]; · iexact Ho
    isplitl [Ht₁]; · iexact Ht₁
    isplitr; · iapply (reached_at m ρ K c (rSend k)); iexact HR
    isplitl [Ht₂]; · iexact Ht₂
    iapply (reached_at m ρ K (peer c) (rRecv k)); iexact HR
  iintro ⟨Hc, Ho⟩
  iapply Hk
  isplitl [Ha]; · iexact Ha
  isplitl [Hs₂]; · unfold sPts; iexact Hs₂
  isplitl [Hc]; · iexact Hc
  iexists W; iexact Ho

/-- A wait for the one round of one of the device's transfer counters, when nothing is owed: the round's payload. -/
theorem wait_step (c : Dev nD) (r : Role) {e : TpuEff nD τ sig (Elt F) Λ₀ .tc PUnit}
    (he : ∀ P : PUnit → sProp 𝕄, wpE (defs₀ (F := F)) 𝒱₀ (c : Thread nD τ) none Set.univ e P = waitSpec (c : Thread nD τ) Set.univ (csem r) (amt r) P)
    {α : Type} {Q : α → sProp 𝕄} {kt : PUnit → Prog (TpuEff nD τ sig (Elt F) Λ₀ .tc) α} :
    iprop(records m ρ K ∗ cred (tallyAt (cell c r) () (amt r)) ∗ owing c 0 ∗ atPos ER (cell c r) 0 ∅ 0)
      ⊢ iprop(((owing c 0 ∗ atPos ER (cell c r) 1 ∅ 0 ∗ pay m ρ c r) -∗ runs c (kt ⟨⟩) Q) -∗ runs c (.op e kt) Q) := by
  unfold owing
  iintro ⟨#HR, Hc, ⟨%W, Ho⟩, Hat⟩ Hk
  iapply (Rounds.wp_wait_rest_token 𝒱₀ ER (Rd m ρ) (c : Thread nD τ) none (κ := K (c, r)) he (Set.mem_univ _) ()
      (O := 0) (W := W) (R := 0) (m := 0) (T := ∅) (by rw [Nat.zero_add, expect_cell])) $$ [Hc Ho Hat]
  · isplitr; · iapply (inv_at m ρ K c r); iexact HR
    isplitl [Hc]; · iexact Hc
    isplitl [Ho]; · iexact Ho
    isplitr; · rw [MayWait_zero]; iempintro
    iexact Hat
  iintro ⟨Ho, Hat, -, Hp⟩
  ihave Hp := (Entails.of_eq (rest_cell m ρ c r)) $$ Hp
  iapply Hk
  isplitl [Ho]; · iexists _; iexact Ho
  isplitl [Hat]; · iexact Hat
  iexact Hp

/-- A wait on receive counter `k` waits for one transfer. -/
theorem recv_wait (c : Dev nD) (k : Fin 4) {h₁ : (slotOf sM k).view.WordExact} {h₂ : (slotOf rM k).view.WordExact} (P : PUnit → sProp 𝕄) :
    wpE (defs₀ (F := F)) 𝒱₀ (c : Thread nD τ) none Set.univ (.waitDma2 (semAt cc0_scratch3 k) (slotOf sM k) (slotOf rM k) h₁ h₂) P
      = waitSpec (c : Thread nD τ) Set.univ (csem (rRecv k)) (amt (rRecv k)) P := by
  rw [wpE_waitDma2_eq, recv_credit]; rfl

/-- A wait on send counter `k` waits for one transfer. -/
theorem send_wait (c : Dev nD) (k : Fin 4) {h₁ : (slotOf rM k).view.WordExact} {h₂ : (slotOf sM k).view.WordExact} (P : PUnit → sProp 𝕄) :
    wpE (defs₀ (F := F)) 𝒱₀ (c : Thread nD τ) none Set.univ (.waitDma2 (semAt cc0_scratch2 k) (slotOf rM k) (slotOf sM k) h₁ h₂) P
      = waitSpec (c : Thread nD τ) Set.univ (csem (rSend k)) (amt (rSend k)) P := by
  rw [wpE_waitDma2_eq, send_credit]; rfl

/-- Receiving the partner's block `k` and storing the sum in row block `k` of the result. -/
theorem out_step (c : Dev nD) (k : Fin 4)
    (w : (S1x128x512.Idx → Elt F .bf16) → (S1x128x512.Idx → Elt F .bf16) → (S128x512.Idx → Elt F .bf16)) (hw : ∀ a b, w a b = k0_pay6 a b)
    {h₁ : (slotOf sM k).view.WordExact} {h₂ : (slotOf rM k).view.WordExact}
    {hl₁ : sM.view.LoadsAt (slotR k).toLoadRect} {hl₂ : rM.view.LoadsAt (slotR k).toLoadRect} {hl₃ : oM.view.LoadsAt (orowR k).toLoadRect}
    {hx : (oM.access (orowR k)).Stores Finset.univ} {hm : (Finset.univ : Finset (orowR k).shape.Idx) = Finset.univ ∨ ∀ a, (orowR k).stride a = 1}
    {α : Type} {Q : α → sProp 𝕄} {kt : PUnit → Prog (TpuEff nD τ sig (Elt F) Λ₀ .tc) α} :
    iprop(records m ρ K ∗ cred (tallyAt (cell c (rRecv k)) () N) ∗ owing c 0 ∗ atPos ER (cell c (rRecv k)) 0 ∅ 0
        ∗ sPts c k fullShare.right (prod m ρ c) ∗ ∃ f, oPts c k f)
      ⊢ iprop(((owing c 0 ∗ atPos ER (cell c (rRecv k)) 1 ∅ 0 ∗ sPts c k fullShare.right (prod m ρ c) ∗ rPts c k (prod m ρ (peer c)) ∗ oPts c k (outC m ρ c))
            -∗ runs c (kt ⟨⟩) Q)
          -∗ runs c (.op (.waitDma2 (semAt cc0_scratch3 k) (slotOf sM k) (slotOf rM k) h₁ h₂) fun _ =>
              .op (.load sM (slotR k).toLoadRect hl₁) fun a => .op (.load rM (slotR k).toLoadRect hl₂) fun b =>
              .op (.load oM (orowR k).toLoadRect hl₃) fun _ => .op (.store oM (orowR k) (w a b) Finset.univ hx hm) kt) Q) := by
  iintro ⟨#HR, Hc, Ho, Hat, Hs, ⟨%f, Hout⟩⟩ Hk
  iapply (wait_step m ρ K c (rRecv k) (recv_wait c k (h₁ := h₁) (h₂ := h₂))) $$ [Hc Ho Hat]
  · isplitr; · iexact HR
    isplitl [Hc]; · iexact Hc
    isplitl [Ho]; · iexact Ho
    iexact Hat
  iintro ⟨Ho, Hat, Hr⟩
  unfold pay sPts rPts oPts
  iapply (wp_load_rect 𝒱₀ (c : Thread nD τ) none Set.univ (m := sM) (r := slotR k) (by rw [sM_access_set, sM_slot_set])) $$ Hs; iintro Hs
  iapply (wp_load_rect 𝒱₀ (c : Thread nD τ) none Set.univ (m := rM) (r := slotR k) (by rw [rM_access_set, rM_slot_set])) $$ Hr; iintro Hr
  iapply (wp_load_rect 𝒱₀ (c : Thread nD τ) none Set.univ (m := oM) (r := orowR k) (Finset.Subset.refl _)) $$ Hout; iintro Hout
  iapply (wp_store 𝒱₀ (c : Thread nD τ) none Set.univ (m := oM) (r := orowR k) (Mk := Finset.univ) (S := (oM.access (orowR k)).set)
    (by rw [View.setOn_univ])) $$ Hout; iintro Hout
  rw [hw]
  ihave Hout := (Entails.of_eq (oPts_stored c k f (prod m ρ c) (prod m ρ (peer c)))) $$ Hout
  unfold oPts
  iapply Hk
  isplitl [Ho]; · iexact Ho
  isplitl [Hat]; · iexact Hat
  isplitl [Hs]; · iexact Hs
  isplitl [Hr]; · iexact Hr
  iexact Hout

/-- Waiting for the send of slot `k` to finish: the half of the slot that was sent comes back. -/
theorem drain_step (c : Dev nD) (k : Fin 4)
    {h₁ : (slotOf rM k).view.WordExact} {h₂ : (slotOf sM k).view.WordExact}
    {α : Type} {Q : α → sProp 𝕄} {kt : PUnit → Prog (TpuEff nD τ sig (Elt F) Λ₀ .tc) α} :
    iprop(records m ρ K ∗ cred (tallyAt (cell c (rSend k)) () N) ∗ owing c 0 ∗ atPos ER (cell c (rSend k)) 0 ∅ 0
        ∗ sPts c k fullShare.right (prod m ρ c))
      ⊢ iprop(((owing c 0 ∗ atPos ER (cell c (rSend k)) 1 ∅ 0 ∗ sPts c k fullShare (prod m ρ c)) -∗ runs c (kt ⟨⟩) Q)
          -∗ runs c (.op (.waitDma2 (semAt cc0_scratch2 k) (slotOf rM k) (slotOf sM k) h₁ h₂) kt) Q) := by
  iintro ⟨#HR, Hc, Ho, Hat, Hs⟩ Hk
  iapply (wait_step m ρ K c (rSend k) (send_wait c k (h₁ := h₁) (h₂ := h₂))) $$ [Hc Ho Hat]
  · isplitr; · iexact HR
    isplitl [Hc]; · iexact Hc
    isplitl [Ho]; · iexact Ho
    iexact Hat
  iintro ⟨Ho, Hat, Hs'⟩
  iapply Hk
  isplitl [Ho]; · iexact Ho
  isplitl [Hat]; · iexact Hat
  iapply (sPts_halves c k (prod m ρ c)).2
  isplitl [Hs']; · unfold pay; iexact Hs'
  iexact Hs

/-- A family of facts that follow one by one from a lasting fact and their parts follows from the parts together. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A counter past its round closes at zero. -/
theorem close_one (c : Dev nD) (r : Role) :
    iprop(records m ρ K ∗ atPos ER (cell c r) 1 ∅ 0) ⊢ (|={Set.univ}=> semVal (cell c r) 0 : sProp 𝕄) := by
  iintro ⟨HR, Hat⟩
  iapply (Rounds.cell_close ER (Rd m ρ) (Set.mem_univ (K (c, r))) (fun h => h) (R := 1) (duties_later m ρ (cell c r)))
  isplitl [HR]; · iapply (inv_at m ρ K c r); iexact HR
  iexact Hat

/-- The nine counters, all past their rounds, close at zero. -/
theorem close_all (c : Dev nD) :
    iprop(records m ρ K ∗ atPos ER (cell c rBar) 1 ∅ 0 ∗ (bigSep Finset.univ fun k => atPos ER (cell c (rSend k)) 1 ∅ 0)
        ∗ bigSep Finset.univ fun k => atPos ER (cell c (rRecv k)) 1 ∅ 0)
      ⊢ (|={Set.univ}=> zeros c : sProp 𝕄) := by
  have hs : iprop(records m ρ K ∗ bigSep Finset.univ fun k => atPos ER (cell c (rSend k)) 1 ∅ 0)
      ⊢ (|={Set.univ}=> bigSep Finset.univ fun k => semVal (cell c (rSend k)) 0 : sProp 𝕄) :=
    (bigSep_with fun k _ => close_one m ρ K c (rSend k)).trans (bigSep_fupd _ _)
  have hr : iprop(records m ρ K ∗ bigSep Finset.univ fun k => atPos ER (cell c (rRecv k)) 1 ∅ 0)
      ⊢ (|={Set.univ}=> bigSep Finset.univ fun k => semVal (cell c (rRecv k)) 0 : sProp 𝕄) :=
    (bigSep_with fun k _ => close_one m ρ K c (rRecv k)).trans (bigSep_fupd _ _)
  unfold zeros
  iintro ⟨#HR, Hb, Hs, Hr⟩
  imod (close_one m ρ K c rBar) $$ [Hb] with Hb
  · isplitr; · iexact HR
    iexact Hb
  imod hs $$ [Hs] with Hs
  · isplitr; · iexact HR
    iexact Hs
  imod hr $$ [Hr] with Hr
  · isplitr; · iexact HR
    iexact Hr
  imodintro
  isplitl [Hb]; · iexact Hb
  isplitl [Hs]; · iexact Hs
  iexact Hr

end Cert.PairSum

end
-- ==== Proof.Body.lean ====
/-
  The kernel's body on one device, from its start to its end, step by step, and the pipeline's
  obligation for it.
-/
module

public import proofs.«01_k».proof.Proof.Steps
public import proofs.«01_k».proof.Proof.Gen.KernelIdeal.Points

@[expose] public section

noncomputable section

namespace Cert.PairSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

/-- Ownership of a family over the four slots is ownership of its four members. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The barrier's payload, slot by slot. -/
theorem pay_bar (c : Dev nD) : pay m ρ c rBar
    = iprop((∃ f, rPts (peer c) 0 f) ∗ (∃ f, rPts (peer c) 1 f) ∗ (∃ f, rPts (peer c) 2 f) ∗ ∃ f, rPts (peer c) 3 f) :=
  bigSep_four _

/-- The barrier signal goes to the partner. -/
theorem dev1_eq (c : Dev nD) : (⟨k0_dev1 c, k0_dev1_lt c⟩ : Dev nD) = peer c := peer_of _ (k0_dev1_eq c)
/-- The first copy goes to the partner. -/
theorem dev2_eq (c : Dev nD) : (⟨k0_dev2 c, k0_dev2_lt c⟩ : Dev nD) = peer c := peer_of _ (k0_dev2_eq c)
/-- The second copy goes to the partner. -/
theorem dev3_eq (c : Dev nD) : (⟨k0_dev3 c, k0_dev3_lt c⟩ : Dev nD) = peer c := peer_of _ (k0_dev3_eq c)
/-- The third copy goes to the partner. -/
theorem dev4_eq (c : Dev nD) : (⟨k0_dev4 c, k0_dev4_lt c⟩ : Dev nD) = peer c := peer_of _ (k0_dev4_eq c)
/-- The fourth copy goes to the partner. -/
theorem dev5_eq (c : Dev nD) : (⟨k0_dev5 c, k0_dev5_lt c⟩ : Dev nD) = peer c := peer_of _ (k0_dev5_eq c)

/-- A buffer of device `c` known to hold `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a staged block of contents `X` is owning its buffer in full, holding `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- The one grid point. -/
def t₀ : Fin cfg0.N := t0_0

/-- The offsets of a load of a whole rank-two buffer are all zero. -/
theorem zero_off : (![0, 0] : Fin 2 → Nat) = fun _ => 0 := funext fun a => by fin_cases a <;> rfl

/-- A load of the whole right block reads the block. -/
theorem read_b (f : S256x512.Idx → Elt F .bf16) :
    bM.view.readAt (Elt F) (Rect.unit (s := S256x512) ![0, 0] S256x512.size inb_S256x512_S256x512_0_0).toLoadRect f = f :=
  Memref.readAt_unit_zero (Elt F) cc0_stg1_0 zero_off _ f

/-- What a device owns when its body starts. -/
def bodyPre (c : Dev nD) : sProp 𝕄 :=
  iprop((ghost m ρ K c ∗ credits c ∗ levAts L lv ∗ slotsAny c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What a device owns when its body ends. -/
def bodyPost (c : Dev nD) : sProp 𝕄 :=
  iprop(Φ₁ m ρ c ∗ (dats m ρ 0 c).owesAt () t₀.succ ∗ stg c cc0_stg0_0 (aIn m ρ c) ∗ stg c cc0_stg1_0 (bIn m ρ c)
    ∗ stg c cc0_stg2_0 (outC m ρ c))

set_option maxHeartbeats 1600000 in
/-- The body runs from its start to its end. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost positions payToks credits slotsAny
  simp only [bigSep_four]
  iintro ⟨⟨⟨⟨#HR, ⟨HaB, ⟨HaS0, HaS1, HaS2, HaS3⟩, ⟨HaR0, HaR1, HaR2, HaR3⟩⟩, ⟨HtB, ⟨HtS0, HtS1, HtS2, HtS3⟩, ⟨HtR0, HtR1, HtR2, HtR3⟩⟩⟩,
      ⟨HcB, ⟨HcR0, HcR1, HcR2, HcR3⟩⟩, #Hlev, ⟨⟨Hs0, Hs1, Hs2, Hs3⟩, Hr⟩⟩,
    Ho, ⟨%d0, %g0, %hg0, Ha⟩, ⟨%d1, %g1, %hg1, Hb⟩, ⟨%d2, %g2, %hg2, Hout⟩⟩, Hk⟩
  have ha : g0 = aIn m ρ c := by rw [hg0]; unfold Dat.before; rw [if_pos (fetch0_0 t₀)]; rfl
  have hb : g1 = bIn m ρ c := by rw [hg1]; unfold Dat.before; rw [if_pos (fetch0_1 t₀)]; rfl
  subst ha
  subst hb
  unfold Dat.owesAt Pipeline.owesWithin
  icases Ho with ⟨%W, %hW, Ho⟩
  rw [show (dats m ρ 0 c).owed t₀.castSucc = O₀ c from rfl]
  simp only [dev1_eq c]
  unfold O₀
  -- the signal: the partner gets the receive buffer
  iapply (Rounds.wp_signal 𝒱₀ ER (Rd m ρ) (c : Thread nD τ) none (dst := (peer c : Thread nD τ)) (κ := K (peer c, rBar))
      (d := ()) (mem_duties m ρ (peer c) rBar) ((amount_cell m ρ (peer c) rBar ()).trans (by decide)) () (oweFrom c 0) rfl)
    $$ [Ho HtB Hr]
  · isplitr; · iapply (inv_at m ρ K (peer c) rBar); iexact HR
    isplitl [Ho]; · iexact Ho
    isplitl [HtB]; · iexact HtB
    isplitl [Hr]
    · rw [payload_cell m ρ (peer c) rBar, pay_bar, peer_peer]; iexact Hr
    · iapply (reached_at m ρ K (peer c) rBar); iexact HR
  iintro Ho
  -- the wait: the partner's receive buffer
  iapply (Rounds.wp_wait_rest_token 𝒱₀ ER (Rd m ρ) (c : Thread nD τ) none (κ := K (c, rBar))
      (wpE_semWait_eq 𝒱₀ (c : Thread nD τ) none Set.univ) (Set.mem_univ _) () (O := oweFrom c 0) (W := W) (R := 0) (m := 0) (T := ∅)
      (by rw [expect_cell m ρ c rBar]; decide)) $$ [HcB Ho HaB]
  · isplitr; · iapply (inv_at m ρ K c rBar); iexact HR
    isplitl [HcB]; · iexact HcB
    isplitl [Ho]; · iexact Ho
    isplitr; · iapply (mayWait_bar c); iexact Hlev
    iexact HaB
  iintro ⟨Ho, HaB, -, Hp⟩
  ihave Hp := (Entails.of_eq ((rest_cell m ρ c rBar).trans (pay_bar m ρ c))) $$ Hp
  icases Hp with ⟨Hr0, Hr1, Hr2, Hr3⟩
  ihave Ho := (show owes (c : Thread nD τ) (oweFrom c 0) (insert (SemLoc.reg barS, ()) W) ⊢ (owing c (oweFrom c 0) : sProp 𝕄) from by
    unfold owing; iintro H; iexists _; iexact H) $$ Ho
  -- the right factor
  iapply (wp_load 𝒱₀ (c : Thread nD τ) none Set.univ (m := bM) (Finset.subset_univ _)) $$ Hb; iintro Hb
  rw [read_b]
  ihave Ha := (show (((c : Thread nD τ).loc cc0_stg0_0) ↦{fullShare} aIn m ρ c) ⊢ (aPts m ρ c : sProp 𝕄) from BI.Entails.refl _) $$ Ha
  -- the four blocks sent
  iapply (chunk_step m ρ K c _ (dev2_eq c) 0 _ (fun _ => rfl)) $$ [Ha Hs0 Hr0 Ho HtS0 HtR0]
  · iframe HR Ha Hs0 Hr0 Ho HtS0 HtR0
  iintro ⟨Ha, Hs0, HcS0, Ho⟩
  iapply (chunk_step m ρ K c _ (dev3_eq c) 1 _ (fun _ => rfl)) $$ [Ha Hs1 Hr1 Ho HtS1 HtR1]
  · iframe HR Ha Hs1 Hr1 Ho HtS1 HtR1
  iintro ⟨Ha, Hs1, HcS1, Ho⟩
  iapply (chunk_step m ρ K c _ (dev4_eq c) 2 _ (fun _ => rfl)) $$ [Ha Hs2 Hr2 Ho HtS2 HtR2]
  · iframe HR Ha Hs2 Hr2 Ho HtS2 HtR2
  iintro ⟨Ha, Hs2, HcS2, Ho⟩
  iapply (chunk_step m ρ K c _ (dev5_eq c) 3 _ (fun _ => rfl)) $$ [Ha Hs3 Hr3 Ho HtS3 HtR3]
  · iframe HR Ha Hs3 Hr3 Ho HtS3 HtR3
  iintro ⟨Ha, Hs3, HcS3, Ho⟩
  -- nothing is owed any more; the result's block is its four row blocks
  rw [show oweFrom c ((3 : Fin 4).val + 1) = 0 from oweFrom_four c]
  ihave Hout := (show (((c : Thread nD τ).loc cc0_stg2_0) ↦{fullShare} g2) ⊢ (iprop((∃ f, oPts c 0 f) ∗ (∃ f, oPts c 1 f) ∗ (∃ f, oPts c 2 f) ∗ ∃ f, oPts c 3 f) : sProp 𝕄) from by
    rw [← oPts_all c g2, ← bigSep_four (fun k => (iprop(∃ f, oPts c k f) : sProp 𝕄))]
    exact bigSep_mono fun k _ => (show oPts c k g2 ⊢ (iprop(∃ f, oPts c k f) : sProp 𝕄) from by iintro H; iexists _; iexact H)) $$ Hout
  icases Hout with ⟨Ho0, Ho1, Ho2, Ho3⟩
  -- the four sums
  iapply (out_step m ρ K c 0 _ (fun _ _ => rfl)) $$ [HcR0 Ho HaR0 Hs0 Ho0]
  · iframe HR HcR0 Ho HaR0 Hs0 Ho0
  iintro ⟨Ho, HaR0, Hs0, Hr0, Ho0⟩
  iapply (out_step m ρ K c 1 _ (fun _ _ => rfl)) $$ [HcR1 Ho HaR1 Hs1 Ho1]
  · iframe HR HcR1 Ho HaR1 Hs1 Ho1
  iintro ⟨Ho, HaR1, Hs1, Hr1, Ho1⟩
  iapply (out_step m ρ K c 2 _ (fun _ _ => rfl)) $$ [HcR2 Ho HaR2 Hs2 Ho2]
  · iframe HR HcR2 Ho HaR2 Hs2 Ho2
  iintro ⟨Ho, HaR2, Hs2, Hr2, Ho2⟩
  iapply (out_step m ρ K c 3 _ (fun _ _ => rfl)) $$ [HcR3 Ho HaR3 Hs3 Ho3]
  · iframe HR HcR3 Ho HaR3 Hs3 Ho3
  iintro ⟨Ho, HaR3, Hs3, Hr3, Ho3⟩
  -- the four sends finished
  iapply (drain_step m ρ K c 0) $$ [HcS0 Ho HaS0 Hs0]
  · iframe HR HcS0 Ho HaS0 Hs0
  iintro ⟨Ho, HaS0, Hs0⟩
  iapply (drain_step m ρ K c 1) $$ [HcS1 Ho HaS1 Hs1]
  · iframe HR HcS1 Ho HaS1 Hs1
  iintro ⟨Ho, HaS1, Hs1⟩
  iapply (drain_step m ρ K c 2) $$ [HcS2 Ho HaS2 Hs2]
  · iframe HR HcS2 Ho HaS2 Hs2
  iintro ⟨Ho, HaS2, Hs2⟩
  iapply (drain_step m ρ K c 3) $$ [HcS3 Ho HaS3 Hs3]
  · iframe HR HcS3 Ho HaS3 Hs3
  iintro ⟨Ho, HaS3, Hs3⟩
  -- the counters close
  imod (close_all m ρ K c) $$ [HaB HaS0 HaS1 HaS2 HaS3 HaR0 HaR1 HaR2 HaR3] with Hz
  · simp only [bigSep_four]
    iframe HR HaB HaS0 HaS1 HaS2 HaS3 HaR0 HaR1 HaR2 HaR3
  rw [wp_ret]; imodintro
  iapply Hk
  unfold bodyPost Φ₁ Dat.owesAt Pipeline.owesWithin
  rw [show (dats m ρ 0 c).owed t₀.succ = 0 from rfl]
  simp only [bigSep_four]
  isplitl [Hs0 Hs1 Hs2 Hs3 Hr0 Hr1 Hr2 Hr3 Hz]
  · iframe Hs0 Hs1 Hs2 Hs3 Hr0 Hr1 Hr2 Hr3 Hz
  isplitl [Ho]
  · unfold owing
    icases Ho with ⟨%W', Ho⟩
    iexists W'
    isplitr; · ipureintro; exact fun _ _ => Or.inl trivial
    iexact Ho
  isplitl [Ha]
  · iexists _; isplitr; · (ipureintro; rfl)
    unfold aPts; iexact Ha
  isplitl [Hb]
  · iexists _; isplitr; · (ipureintro; rfl)
    iexact Hb
  iexists _; isplitr; · (ipureintro; rfl)
  rw [← oPts_all c (outC m ρ c), bigSep_four]
  iframe Ho0 Ho1 Ho2 Ho3

/-- The same as the pipeline states it, the names of the agreements not yet chosen. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m ρ c)
  unfold bodyPre' Φ₀ start
  iintro ⟨⟨⟨⟨%K, Hg⟩, Hc, Hl⟩, Hs⟩, Ho, Ha, Hb, Hout⟩
  iapply (sound_body m ρ K c fun _ => bodyPost m ρ c)
  unfold bodyPre
  isplitl
  · iframe Hg Hc Hl Hs Ho Ha Hb Hout
  · iintro H; iexact H

end Cert.PairSum

end
-- ==== Proof.Run.lean ====
/-
  The launch: the nine counters of every device become shared agreements at once, each device gets the
  tokens of what it pays, and the kernel runs to its end on all four devices.
-/
module

public import proofs.«01_k».proof.Proof.Body
public import Idealize.ShloMosaic.Lib.Pipeline.CollectiveSegs

@[expose] public section

noncomputable section

namespace Cert.PairSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters, and who is dealt what -/

/-- The kernel's own eight counters, as the launch counts them: the four send, then the four receive counters. -/
abbrev osem : Fin 8 → SemLoc sig := fun i => csem (.inr (finSumFinEquiv.symm i))

/-- The eight counters are different, and are the kernel's own. -/
theorem ownSemFacts : Pipeline.OwnSemFacts cfg0.spec osem := by decide

/-- Every array is owned in full. -/
theorem share_eq (c : Dev nD) (w : Fin cfg0.W) : (dats m ρ 0 c).share w = fullShare := by unfold Dat.share; split <;> rfl

/-- The counter of a device and a role. -/
abbrev kcell (cr : Dev nD × Role) : GSem nD τ sig := cell cr.1 cr.2

/-- Different devices or roles are different counters. -/
theorem kcell_injective : Function.Injective kcell := by
  rintro ⟨c, r⟩ ⟨c', r'⟩ h
  obtain ⟨h₁, h₂⟩ := cell_eq_iff.mp h
  exact Prod.ext h₁ h₂

/-- All the counters in play. -/
def allCells : Finset (GSem nD τ sig) := Finset.univ.map ⟨kcell, kcell_injective⟩

/-- The one duty of a counter's one round. -/
abbrev tokOf (cr : Dev nD × Role) : GSem nD τ sig × ℕ × Unit := (kcell cr, 0, ())
/-- Different counters have different duties. -/
theorem tokOf_injective : Function.Injective tokOf := fun _ _ h => kcell_injective (congrArg Prod.fst h)

/-- All the duties. -/
def allToks : Finset (GSem nD τ sig × ℕ × Unit) := Finset.univ.map ⟨tokOf, tokOf_injective⟩

/-- The ghost state at launch. -/
def u₀ : UU :=
  (initOf (Pipeline.cells cfgs cellOf_inj) (Pipeline.launchToks cfgs cellOf_inj), initOf allCells allToks)

/-- The duty tokens of device `c`'s own counters. -/
def toks (c : Dev nD) : sProp 𝕄 := bigSep Finset.univ fun r : Role => dutyTok ER (cell c r) 0 ()

/-- What device `c` is dealt at launch. -/
def G (c : Dev nD) : sProp 𝕄 :=
  iprop((bigSep Finset.univ fun r : Role => roundState ER (Rd m ρ) (cell c r) 0)
    ∗ (bigSep Finset.univ fun r : Role => iprop(atPos ER (cell c r) 0 ∅ 0 ∗ reached ER (cell c r) 0)) ∗ toks c)

/-- What it has once the agreements stand. -/
def G' (c : Dev nD) : sProp 𝕄 := iprop(∃ K, ghost m ρ K c)

/-- A family over the roles is its barrier part, its send part and its receive part. -/
theorem bigSep_role (Φ : Role → sProp 𝕄) :
    bigSep Finset.univ Φ = iprop(Φ rBar ∗ (bigSep Finset.univ fun k => Φ (rSend k)) ∗ bigSep Finset.univ fun k => Φ (rRecv k)) := by
  rw [BI.bigSep_univ_sum, BI.bigSep_univ_sum, BI.bigSep_univ_of_subsingleton ()]
  rfl

/-- The launch's ghost state deals every device its share. -/
theorem deal : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun r : Role => Φ (cell c r) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-- The eight own counters at zero, as the launch hands them over, are the send and the receive counters at zero. -/
theorem ownSems0_eq (c : Dev nD) : (Pipeline.ownSems0 (Ix := Unit) (Name := ℕ) (U := UU) (Lvl := ℕ) (Val := Elt F) (τ := τ) osem c : sProp 𝕄)
    = iprop((bigSep Finset.univ fun k => semVal (cell c (rSend k)) 0) ∗ bigSep Finset.univ fun k => semVal (cell c (rRecv k)) 0) := by
  unfold Pipeline.ownSems0
  rw [bigSep_univ_equiv (finSumFinEquiv : Fin 4 ⊕ Fin 4 ≃ Fin 8), BI.bigSep_univ_sum]
  simp only [osem, Equiv.symm_apply_apply]
  rfl
/-- The barrier counter is the launch's one counter that outlives it. -/
theorem unscopedSems0_eq (c : Dev nD) : (unscopedSems0 c : sProp 𝕄) = semVal (cell c rBar) 0 := by
  unfold unscopedSems0; rw [bigSep_eq_bigSepL_of_eq [SemLoc.reg barS] (by decide) (by decide)]; rfl

/-- Device `c`'s nine counters at zero and their rounds become nine agreements. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun r : Role => iprop(∃ κ : ℕ, cellInv ER (Rd m ρ) κ (cell c r)))
          ∗ (bigSep Finset.univ fun r : Role => iprop(atPos ER (cell c r) 0 ∅ 0 ∗ reached ER (cell c r) 0)) ∗ toks c) := by
  rw [ownSems0_eq, unscopedSems0_eq]
  unfold G
  iintro ⟨⟨HS, HV⟩, HB, Hst, Hat, Htok⟩
  imod (show iprop((bigSep Finset.univ fun r : Role => semVal (cell c r) 0) ∗ bigSep Finset.univ fun r : Role => roundState ER (Rd m ρ) (cell c r) 0)
      ⊢ (|={Set.univ}=> bigSep Finset.univ fun r : Role => iprop(∃ κ : ℕ, cellInv ER (Rd m ρ) κ (cell c r)) : sProp 𝕄) from by
        rw [← bigSep_sep']
        exact (bigSep_mono fun r _ => (Rounds.body_intro ER (Rd m ρ) (cell c r)).trans inv_alloc).trans (bigSep_fupd _ _)) $$ [HS HV HB Hst] with Hinv
  · rw [bigSep_role (fun r => semVal (cell c r) 0)]
    iframe HS HV HB Hst
  imodintro
  iframe Hinv Hat Htok

/-- Dealing the tokens across: a device's barrier and receive tokens go to its partner, who pays them. -/
theorem toks_across : (bigSep Finset.univ fun c : Dev nD => (toks c : sProp 𝕄)) ⊢ bigSep Finset.univ fun c : Dev nD => payToks c := by
  unfold toks payToks
  simp only [bigSep_role]
  rw [bigSep_sep', bigSep_sep', bigSep_sep', bigSep_sep',
    bigSep_univ_equiv swap (fun c : Dev nD => (dutyTok ER (cell c rBar) 0 () : sProp 𝕄)),
    bigSep_univ_equiv swap (fun c : Dev nD => (bigSep Finset.univ fun k => dutyTok ER (cell c (rRecv k)) 0 () : sProp 𝕄))]
  exact BI.Entails.refl _

/-- The agreements of all devices, their positions and tokens, give every device what it starts from. -/
theorem regroup :
    (bigSep Finset.univ fun c : Dev nD => iprop((bigSep Finset.univ fun r : Role => iprop(∃ κ : ℕ, cellInv ER (Rd m ρ) κ (cell c r)))
          ∗ (bigSep Finset.univ fun r : Role => iprop(atPos ER (cell c r) 0 ∅ 0 ∗ reached ER (cell c r) 0)) ∗ toks c) : sProp 𝕄)
      ⊢ bigSep Finset.univ (G' m ρ) := by
  rw [bigSep_sep', bigSep_sep', ← bigSep_univ_prod (fun cr : Dev nD × Role => iprop(∃ κ : ℕ, cellInv ER (Rd m ρ) κ (kcell cr))),
    bigSep_congr (s := Finset.univ) (fun (c : Dev nD) _ => bigSep_sep' Finset.univ (fun r : Role => (atPos ER (cell c r) 0 ∅ 0 : sProp 𝕄)) (fun r => reached ER (cell c r) 0)),
    bigSep_sep', ← bigSep_univ_prod (fun cr : Dev nD × Role => (reached ER (kcell cr) 0 : sProp 𝕄))]
  iintro ⟨HI, ⟨Hat, #HR⟩, Htok⟩
  ihave HK := (BI.bigSep_exists_pi Finset.univ (fun (cr : Dev nD × Role) (κ : ℕ) => (cellInv ER (Rd m ρ) κ (kcell cr) : sProp 𝕄))) $$ HI
  icases HK with ⟨%K, #HI⟩
  ihave Htk := (toks_across (F := F)) $$ Htok
  iapply (bigSep_with (R := records m ρ K) (Φ := fun c => iprop(positions c ∗ payToks c)) fun c _ =>
    (show iprop(records m ρ K ∗ positions c ∗ payToks c) ⊢ G' m ρ c from by
      unfold G' ghost; iintro H; iexists K; iexact H))
  isplitr
  · unfold records; iframe HI HR
  · rw [bigSep_sep']
    isplitl [Hat]
    · iapply (show (bigSep Finset.univ fun c : Dev nD => bigSep Finset.univ fun r : Role => (atPos ER (cell c r) 0 ∅ 0 : sProp 𝕄))
        ⊢ bigSep Finset.univ fun c => positions c from Entails.of_eq (bigSep_congr fun c _ => bigSep_role _))
      iexact Hat
    · iexact Htk

/-- The agreements of all devices are made at once, from all their counters. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- What the partner owes a counter of a role. -/
def due : Role → ℕ
  | .inl _ => 1
  | .inr (.inl _) => 0
  | .inr (.inr _) => N

/-- A sum of what is owed to a counter over the transfers: the one of that counter, if it is a receive counter. -/
theorem owed_cell (d c : Dev nD) (r : Role) : O₀ d (cell c r) () = if d = peer c then due r else 0 := by
  unfold O₀
  rw [Pi.add_apply, Finsupp.add_apply, oweFrom_apply]
  have hd : (c = peer d) ↔ (d = peer c) := ⟨fun h => by rw [h, peer_peer], fun h => by rw [h, peer_peer]⟩
  have ht (r' : Role) (n : ℕ) : (tallyAt (cell (peer d) r') () n : CellTallies nD τ sig Unit) (cell c r) () = if d = peer c ∧ r = r' then n else 0 := by
    rw [tallyAt_apply]
    refine if_congr ?_ rfl rfl
    rw [cell_eq_iff, hd]
    exact ⟨fun h => h.1, fun h => ⟨h, rfl⟩⟩
  simp only [ht]
  by_cases h : d = peer c
  · simp only [h, true_and, if_true, Nat.zero_le, Finset.filter_true]
    match r with
    | .inl () => simp [due]
    | .inr (.inl k) => simp [due]
    | .inr (.inr k) => simp [due]
  · simp [h]

/-- The launch's credit at a counter is what the partner owes it. -/
theorem launch_cell (c : Dev nD) (r : Role) :
    tallyOn (cell c r) (launchCredit (Pipeline.owing O₀) 0 (cell c r)) = (tallyAt (cell c r) () (due r) : CellTallies nD τ sig Unit) := by
  unfold tallyAt; refine congrArg _ (Finsupp.ext fun u => ?_); cases u
  rw [Pipeline.launchCredit_owing, Finsupp.single_eq_same, Finset.sum_congr rfl fun d _ => owed_cell d c r,
    Finset.sum_ite_eq' Finset.univ (peer c) fun _ => due r, if_pos (Finset.mem_univ _)]

/-- The launch's credit includes what device `c` waits with. -/
theorem creds (c : Dev nD) : (Pipeline.launchCred O₀ c : sProp 𝕄) ⊢ credits c := by
  unfold Pipeline.launchCred credits
  refine (bigSep_subset (Finset.subset_univ ((Finset.univ : Finset Role).map ⟨csem, csem_injective⟩))).trans ?_
  rw [bigSep_map]
  show (bigSep Finset.univ fun r : Role => cred (tallyOn (cell c r) (launchCredit (Pipeline.owing O₀) 0 (cell c r)))) ⊢ (_ : sProp 𝕄)
  rw [bigSep_congr fun r _ => congrArg cred (launch_cell c r), bigSep_role]
  iintro ⟨Hb, -, Hr⟩
  isplitl [Hb]; · iexact Hb
  iexact Hr

/-! ## The launch theorem's conditions -/

/-- What the launch hands a device is what the device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · iframe HG Hc Hlev
  · iempintro

/-- With the two scratch buffers, it is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ slotsAny
  iintro ⟨Hs, -, ⟨%f, Hf⟩, ⟨%g, Hg⟩⟩
  isplitl [Hs]; · iexact Hs
  ihave Hf := (Entails.of_eq (sPts_all c f).symm) $$ Hf
  ihave Hg := (Entails.of_eq (rPts_all c g).symm) $$ Hg
  isplitl [Hf]
  · iapply (show (bigSep Finset.univ fun k => sPts c k fullShare f) ⊢ (bigSep Finset.univ fun k => iprop(∃ f, sPts c k fullShare f) : sProp 𝕄) from
      bigSep_mono fun k _ => (show sPts c k fullShare f ⊢ (iprop(∃ f, sPts c k fullShare f) : sProp 𝕄) from by iintro H; iexists f; iexact H))
    iexact Hf
  · iapply (show (bigSep Finset.univ fun k => rPts c k g) ⊢ (bigSep Finset.univ fun k => iprop(∃ f, rPts c k f) : sProp 𝕄) from
      bigSep_mono fun k _ => (show rPts c k g ⊢ (iprop(∃ f, rPts c k f) : sProp 𝕄) from by iintro H; iexists g; iexact H))
    iexact Hg

/-- What the body ends with gives back the counters at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ zeros
  rw [sPts_all, rPts_all]
  iintro ⟨Hs, Hr, HzB, HzS, HzV⟩
  isplitl [HzB]; · iexact HzB
  isplitl [HzS HzV]; · iframe HzS HzV
  isplitl [Hs]; · iexists _; iexact Hs
  iexists _; iexact Hr

/-- Waiting for a staging copy comes below everything a device still owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the arrays hold at the end. -/
def finalA (c : Dev nD) (w : Fin cfg0.W) : Buf (Elt F) ((cfg0.win w).arr.view.loc (c : Thread nD τ)) := (dats m ρ 0 c).arrAt w cfg0.N

/-- Every device's arrays hold what they should. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, whatever the float values are: every fair run of the four devices ends, with
    every device's arrays as `finalA` says and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      iframe HP HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      iframe Hu HSI)
    (hQ := fun _ h hs => ⟨fun c w => (h c).1 w, sem_eq_zero hs fun c => (h c).2.2⟩)

/-- The left factor is as it was. -/
theorem finalA_a (c : Dev nD) : finalA m ρ c (0 : Fin 3) = (s₀ m ρ).mem (win0_0.arr.view.loc (c : Thread nD τ)) :=
  (dats (F := F) m ρ 0 c).arrAt_in (0 : Fin 3) rfl _
/-- The right factor is as it was. -/
theorem finalA_b (c : Dev nD) : finalA m ρ c (1 : Fin 3) = (s₀ m ρ).mem (win0_1.arr.view.loc (c : Thread nD τ)) :=
  (dats (F := F) m ρ 0 c).arrAt_in (1 : Fin 3) rfl _

/-- So every fair run ends with both factors as they were and every counter at zero. -/
theorem run_frame : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun _ h => ⟨fun c => ⟨(h.1 c (0 : Fin 3)).trans (finalA_a m ρ c), (h.1 c (1 : Fin 3)).trans (finalA_b m ρ c)⟩, h.2⟩)
    (run_main m ρ)

end Cert.PairSum

end
-- ==== Proof.Value.lean ====
/-
  What the run leaves in the result, as sums of extended reals: a device's block is its own half of the
  contracted axis plus its partner's half, which together are the whole axis.
-/
module

public import proofs.«01_k».proof.Proof.Run
public import Idealize.ShloMosaic.Lib.Pipeline.Value
public import Idealize.ShloMosaic.Lib.MatmulPlain
public import Idealize.ShloMosaic.Lib.StackMember
public import Idealize.ShloMosaic.Lib.Layout

@[expose] public section

noncomputable section

namespace Cert.PairSum

open Cert.KernelIdeal Cert.KernelIdeal.Gen
open Idealize.ShloMosaic Idealize.ShloMosaic.ValueIdx
open Idealize.ShloMosaic.TcCoe
open Idealize.ShloMosaic.Pipeline (Dat Cfg Window)
open scoped BigOperators

/-! ## The arrays, for any float values -/

section Arrays

variable {F : FTy → Type} [FloatOps F]
variable (m : (ℓ : Loc nD τ sig) → Buf (Elt F) ℓ) (ρ : Dev nD → PrngReg)

/-- The staged block of the left factor is the whole array the device holds. -/
theorem aIn_eq (c : Dev nD) : aIn m ρ c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) _

/-- The staged block of the right factor is the whole array the device holds. -/
theorem bIn_eq (c : Dev nD) : bIn m ρ c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) _

/-- What is flushed to the result array is the result's block. -/
theorem flushed_out (c : Dev nD) (t : Fin cfg0.N) (_ : (cfg0.win 2).flush t = true) :
    (dats m ρ 0 c).flushed 2 t = ((cfg0.win 2).blk t).view.read (Elt F) (outC m ρ c) := by
  obtain rfl : t = t₀ := Subsingleton.elim (α := Fin 1) _ _
  have hz : (fun a => win0_2.index t₀ a * main_v1.ty.shape.size a) = fun _ => 0 := funext fun a => by fin_cases a <;> decide
  exact (Memref.read_access_unit_zero (Elt F) main_v1 hz (fun a => by rw [congrFun hz a]; simp) (outC m ρ c)).symm

/-- The result array ends holding the device's own partial product plus its partner's. -/
theorem finalA_out (c : Dev nD) : finalA m ρ c (2 : Fin 3) = outC m ρ c :=
  (dats m ρ 0 c).arrAt_eq_of_cover 2 (outC m ρ c) (flushed_out m ρ c) fun i =>
    ⟨t₀, flush0_2 t₀, by
      show i ∈ ((View.whole main_v1).slice (win0_2.rect t₀)).set
      rw [View.set_slice_whole, Rect.mem_set_unit]
      intro a
      have h0 : (i 0 : Nat) < 512 := (i 0).isLt
      have h1 : (i 1 : Nat) < 512 := (i 1).isLt
      match a with
      | ⟨0, _⟩ =>
        show win0_2.index t₀ 0 * win0_2.size 0 ≤ (i 0 : Nat) ∧ (i 0 : Nat) < win0_2.index t₀ 0 * win0_2.size 0 + win0_2.xsize (grid0.coords t₀) 0
        rw [show win0_2.index t₀ 0 * win0_2.size 0 = 0 from by decide +kernel, show win0_2.xsize (grid0.coords t₀) 0 = 512 from by decide +kernel]; omega
      | ⟨1, _⟩ =>
        show win0_2.index t₀ 1 * win0_2.size 1 ≤ (i 1 : Nat) ∧ (i 1 : Nat) < win0_2.index t₀ 1 * win0_2.size 1 + win0_2.xsize (grid0.coords t₀) 1
        rw [show win0_2.index t₀ 1 * win0_2.size 1 = 0 from by decide +kernel, show win0_2.xsize (grid0.coords t₀) 1 = 512 from by decide +kernel]; omega⟩

end Arrays

/-! ## The sums -/

/-- Block `k` of a partial product, at row `r` and column `l`: the sum over the contracted axis. -/
theorem chunk_apply (A : S512x256.Idx → Elt Ideal .bf16) (B : S256x512.Idx → Elt Ideal .bf16) (k : Fin 4) (j : S128x512.Idx) :
    chunk A B k (Fin.cons ⟨0, Nat.one_pos⟩ j) = ∑ x : Fin 256, A ((arowR k).emb (ix2 (j 0) x)) * B (ix2 x (j 1)) := by
  obtain ⟨r, l, rfl⟩ : ∃ (r : Fin 128) (l : Fin 512), j = ix2 r l := ⟨j 0, j 1, eq_ix2 j⟩
  unfold chunk k0_pay3 k0_pay1
  rw [shapeCast_self, shapeCast_self]
  refine (shapeCast_addUnit_apply ![128, 512] _ _ _).trans ?_
  refine (Ideal.matmul_plain_apply (M := 128) (K := 256) (N := 512) (φ₁ := .bf16) (φ₂ := .bf16) none
    (fun x => A ((arowR k).emb x)) B (constant S128x512 .f32 0x00000000#32) r l).trans ?_
  show Ideal.ofBits .f32 0x00000000#32 + _ = _
  rw [Ideal.ofBits_zero_f32, zero_add]

/-- A row of the left factor's block, counted from the row block it lies in. -/
theorem arow_emb (i : S512x512.Idx) (x : Fin 256) : (arowR (rowBlock i)).emb (ix2 (inRows i 0) x) = ix2 (i 0) x := by
  funext a
  apply Fin.ext
  match a with
  | ⟨0, _⟩ =>
    show 128 * ((i 0).val / 128) + 1 * ((i 0).val % 128) = (i 0).val
    omega
  | ⟨1, _⟩ =>
    show 0 + 1 * x.val = x.val
    omega

/-- The sum of two partial products at an index: the two sums over the contracted axis. -/
theorem sumOf_apply (A A' : S512x256.Idx → Elt Ideal .bf16) (B B' : S256x512.Idx → Elt Ideal .bf16) (i : S512x512.Idx) :
    sumOf (part A B) (part A' B') i
      = (∑ x : Fin 256, A (ix2 (i 0) x) * B (ix2 x (i 1))) + ∑ x : Fin 256, A' (ix2 (i 0) x) * B' (ix2 x (i 1)) := by
  have h (A : S512x256.Idx → Elt Ideal .bf16) (B : S256x512.Idx → Elt Ideal .bf16) :
      shapeCast S128x512 (slotRead (part A B) (rowBlock i)) shapeCasts_S1x128x512_S128x512 (inRows i)
        = ∑ x : Fin 256, A (ix2 (i 0) x) * B (ix2 x (i 1)) := by
    rw [slotRead_part]
    refine (shapeCast_dropUnit_apply ![128, 512] _ _ _).trans ((chunk_apply A B (rowBlock i) (inRows i)).trans ?_)
    refine Finset.sum_congr rfl fun x _ => ?_
    rw [arow_emb]
    rfl
  exact congrArg₂ (· + ·) (h A B) (h A' B')

/-- Half `h` of a sum over 512 terms. -/
def half (f : Fin 512 → EReal) (h : Fin 2) : EReal := ∑ x : Fin 256, f ⟨256 * h.val + x.val, by omega⟩

/-- The two halves, whichever comes first, are the whole sum. -/
theorem half_add (f : Fin 512 → EReal) (h h' : Fin 2) (hne : h ≠ h') : half f h + half f h' = ∑ x : Fin 512, f x := by
  have h01 : half f 0 + half f 1 = ∑ x : Fin 512, f x := by
    rw [show (∑ x : Fin 512, f x) = ∑ x : Fin (256 + 256), f x from rfl, Fin.sum_univ_add]
    refine congrArg₂ (· + ·) (Finset.sum_congr rfl fun x _ => congrArg f (Fin.ext ?_)) (Finset.sum_congr rfl fun x _ => congrArg f (Fin.ext ?_))
    · show 256 * 0 + x.val = x.val
      omega
    · show 256 * 1 + x.val = 256 + x.val
      omega
  match h, h' with
  | 0, 0 => exact absurd rfl hne
  | 0, 1 => exact h01
  | 1, 0 => rw [add_comm]; exact h01
  | 1, 1 => exact absurd rfl hne

/-! ## The blocks of the whole arrays -/

/-- A device's place along the mesh axis that cuts the contracted axis. -/
def row (c : Dev nD) : Fin 2 := ⟨c.val / 2, by have : c.val < 4 := c.isLt; omega⟩

/-- A device and its partner are at different places along that axis. -/
theorem row_peer (c : Dev nD) : row c ≠ row (peer c) := by revert c; decide

/-- A device and its partner hold the same columns. -/
theorem col_peer (c : Dev nD) : (peer c).val % 2 = c.val % 2 := by revert c; decide

/-- A device's columns of the whole result. -/
def col (c : Dev nD) (l : Fin 512) : Fin 1024 := ⟨c.val % 2 * 512 + l.val, by omega⟩

variable {α : Type}

/-- Along the first mesh axis a device is at half its number. -/
theorem row_lin (c : Dev nD) : Layout.meshLin [2, 2] c.val [0] = c.val / 2 := by revert c; decide
/-- Along the second mesh axis a device is at its number's remainder by two. -/
theorem col_lin (c : Dev nD) : Layout.meshLin [2, 2] c.val [1] = c.val % 2 := by revert c; decide

/-- A device's block of the whole left factor. -/
abbrev blockA (W : S512x512.Idx → α) (c : Dev nD) : S512x256.Idx → α :=
  Layout.blockN ⟨2, ![512, 256]⟩ ⟨2, ![512, 512]⟩ (Layout.meshBlock [2, 2] ![[], [0]] c) W
/-- A device's block of the whole right factor. -/
abbrev blockB (V : (⟨2, ![512, 1024]⟩ : Shape).Idx → α) (c : Dev nD) : S256x512.Idx → α :=
  Layout.blockN ⟨2, ![256, 512]⟩ ⟨2, ![512, 1024]⟩ (Layout.meshBlock [2, 2] ![[0], [1]] c) V
/-- A device's block of the whole result. -/
abbrev blockO (X : (⟨2, ![512, 1024]⟩ : Shape).Idx → α) (c : Dev nD) : S512x512.Idx → α :=
  Layout.blockN ⟨2, ![512, 512]⟩ ⟨2, ![512, 1024]⟩ (Layout.meshBlock [2, 2] ![[], [1]] c) X

/-- Where an element of a device's block of the left factor lies in the whole. -/
theorem blockA_apply (W : S512x512.Idx → α) (c : Dev nD) (r : Fin 512) (x : Fin 256) :
    blockA W c (ix2 r x) = W (ix2 r ⟨256 * (row c).val + x.val, by omega⟩) := by
  refine congrArg W (funext fun a => Fin.ext ?_)
  match a with
  | ⟨0, _⟩ =>
    show 0 * 512 + r.val = r.val
    omega
  | ⟨1, _⟩ =>
    show Layout.meshLin [2, 2] c.val [0] * 256 + x.val = 256 * (c.val / 2) + x.val
    rw [row_lin]; omega

/-- Where an element of a device's block of the right factor lies in the whole. -/
theorem blockB_apply (V : (⟨2, ![512, 1024]⟩ : Shape).Idx → α) (c : Dev nD) (x : Fin 256) (l : Fin 512) :
    blockB V c (ix2 x l) = V (ix2 ⟨256 * (row c).val + x.val, by omega⟩ (col c l)) := by
  refine congrArg V (funext fun a => Fin.ext ?_)
  match a with
  | ⟨0, _⟩ =>
    show Layout.meshLin [2, 2] c.val [0] * 256 + x.val = 256 * (c.val / 2) + x.val
    rw [row_lin]; omega
  | ⟨1, _⟩ =>
    show Layout.meshLin [2, 2] c.val [1] * 512 + l.val = c.val % 2 * 512 + l.val
    rw [col_lin]

/-- Where an element of a device's block of the result lies in the whole. -/
theorem blockO_apply (X : (⟨2, ![512, 1024]⟩ : Shape).Idx → α) (c : Dev nD) (r l : Fin 512) :
    blockO X c (ix2 r l) = X (ix2 r (col c l)) := by
  refine congrArg X (funext fun a => Fin.ext ?_)
  match a with
  | ⟨0, _⟩ =>
    show 0 * 512 + r.val = r.val
    omega
  | ⟨1, _⟩ =>
    show Layout.meshLin [2, 2] c.val [1] * 512 + l.val = c.val % 2 * 512 + l.val
    rw [col_lin]

/-- The whole product of the whole factors, one sum over the whole contracted axis per element. -/
def whole (W : S512x512.Idx → EReal) (V : (⟨2, ![512, 1024]⟩ : Shape).Idx → EReal) : (⟨2, ![512, 1024]⟩ : Shape).Idx → EReal :=
  fun j => ∑ x : Fin 512, W (ix2 (j 0) x) * V (ix2 x (j 1))

/-- From blocks of the whole factors, the two partners' partial products add up to the block of the whole product. -/
theorem sumOf_blocks (W : S512x512.Idx → EReal) (V : (⟨2, ![512, 1024]⟩ : Shape).Idx → EReal) (c : Dev nD) :
    sumOf (F := Ideal) (part (blockA W c) (blockB V c)) (part (blockA W (peer c)) (blockB V (peer c))) = blockO (whole W V) c := by
  funext i
  obtain ⟨r, l, rfl⟩ : ∃ r l, i = ix2 r l := ⟨i 0, i 1, eq_ix2 i⟩
  refine (sumOf_apply _ _ _ _ _).trans ?_
  rw [blockO_apply, whole]
  have hcol : col (peer c) l = col c l := Fin.ext (congrArg (· * 512 + l.val) (col_peer c))
  refine Eq.trans ?_ (half_add (fun x => W (ix2 r x) * V (ix2 x (col c l))) (row c) (row (peer c)) (row_peer c))
  refine congrArg₂ (· + ·) (Finset.sum_congr rfl fun x _ => ?_) (Finset.sum_congr rfl fun x _ => ?_)
  · exact congrArg₂ (· * ·) (blockA_apply W c r x) (blockB_apply V c x l)
  · exact congrArg₂ (· * ·) (blockA_apply W (peer c) r x) ((blockB_apply V (peer c) x l).trans (by rw [hcol]))

end Cert.PairSum

end
-- ==== Proof.lean ====
module

public import proofs.«01_k».proof.Proof.Gen.ReferenceIdeal.Run
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.ValueIdx
open scoped BigOperators

/-- The two programs have the same body under each label. -/
theorem bodies_eq {F : FTy → Type} [FloatOps F] : Cert.KernelIdeal.defs₀ (F := F) = Cert.Kernel.defs₀ (F := F) := by
  unfold Cert.Kernel.defs₀ Cert.KernelIdeal.defs₀
  refine congrArg Defs.onTc ?_
  funext l x
  match l, x with
  | ⟨0, _⟩, (_, _) => rfl
  | ⟨_ + 1, h⟩, _ => exact absurd h (Nat.not_lt.2 (Nat.le_add_left _ _))

/-- So they have the same table of bodies. -/
theorem table_eq {F : FTy → Type} [FloatOps F] : Cert.KernelIdeal.defs (F := F) = Cert.Kernel.defs (F := F) :=
  congrArg (Pipeline.defs Cert.KernelIdeal.pcfgs) bodies_eq

/-- The kernel on machine floats terminates without a fault, keeps its arguments and leaves every counter at zero. -/
theorem frame_kernel : Cert.quiescent_Kernel := by
  intro m ρ _
  have h := PairSum.run_frame (F := Bits) m ρ
  rw [table_eq] at h
  exact h

/-- The same of the idealized kernel. -/
theorem frame_kernelIdeal : Cert.quiescent_KernelIdeal := fun m ρ _ => PairSum.run_frame (F := Ideal) m ρ

/-- The same of the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- What the reference computes from the whole factors is, element by element, one sum over the contracted axis. -/
theorem reference_eq (W : FVec Ideal Cert.ReferenceIdeal.S512x512 .bf16) (V : FVec Ideal Cert.ReferenceIdeal.S512x1024 .bf16) :
    truncf .bf16 (Host.dotGeneral Cert.ReferenceIdeal.dot_S512x512_S512x1024_S512x1024_1_0_0_1_n_n none W V) Cert.ReferenceIdeal.Facts₀.bitsLt_bf16_f32
      = PairSum.whole W V := by
  funext j
  obtain ⟨r, l, rfl⟩ : ∃ r l, j = ix2 r l := ⟨j 0, j 1, eq_ix2 j⟩
  exact StackMember.dotGeneral_plain_apply none W V r l

/-- From blocks of the reference's arguments, every device of the idealized kernel ends with its block of the
    reference's result. -/
theorem algebraic : Cert.algebraic_KernelIdeal_ReferenceIdeal := by
  intro m ρ m' ρ' _ hargs
  refine ⟨_, ?_, (θ_run Cert.ReferenceIdeal.defs _ _).mono (fun _ h => h 0) (Cert.ReferenceIdeal.Value.run (F := Ideal) m' ρ')⟩
  refine (θ_run Cert.KernelIdeal.defs _ _).mono (fun _ h c =>
    ⟨(h.1 c (2 : Fin 3)).trans ((PairSum.finalA_out m ρ c).trans ?_),
      (h.1 c (0 : Fin 3)).trans (PairSum.finalA_a m ρ c), (h.1 c (1 : Fin 3)).trans (PairSum.finalA_b m ρ c)⟩)
    (PairSum.run_main (F := Ideal) m ρ)
  unfold PairSum.outC PairSum.prod
  rw [PairSum.aIn_eq, PairSum.bIn_eq, PairSum.aIn_eq, PairSum.bIn_eq, (hargs c).1, (hargs c).2,
    (hargs (PairSum.peer c)).1, (hargs (PairSum.peer c)).2]
  refine (PairSum.sumOf_blocks _ _ c).trans ?_
  exact congrArg (fun X => PairSum.blockO X c) (reference_eq _ _).symm

/-- Everything claimed. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
